-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v22) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v13_0)) (v1 : (c : Dev Cert.InProjIdeal.nD) → Buf (Elt Ideal) ((c.tc : Thread Cert.InProjIdeal.nD Cert.InProjIdeal.τ).loc Cert.InProjIdeal.main_v13_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13_0) = v0 c
          ∧ r.2.mem ((c.tc : Thread Cert.InProjIdeal.nD Cert.InProjIdeal.τ).loc Cert.InProjIdeal.main_v13_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v22) = v0 c
          ∧ r.2.mem ((c.tc : Thread Cert.InProjRefIdeal.nD Cert.InProjRefIdeal.τ).loc Cert.InProjRefIdeal.main_v23) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v11_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_v11_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_v43) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
-- ==== Pre_finite_logits.lean ====
abbrev S4x8192x12288 : Shape := ⟨3, ![4, 8192, 12288]⟩
abbrev S4x8192x256 : Shape := ⟨3, ![4, 8192, 256]⟩
abbrev S2x1024 : Shape := ⟨2, ![2, 1024]⟩
abbrev S1x128 : Shape := ⟨2, ![1, 128]⟩
abbrev S1x4x3072 : Shape := ⟨3, ![1, 4, 3072]⟩
abbrev S1x8 : Shape := ⟨2, ![1, 8]⟩
abbrev S8x128x128 : Shape := ⟨3, ![8, 128, 128]⟩
abbrev S8x3072 : Shape := ⟨2, ![8, 3072]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S4x8192x12288 .f32) (main_arg1 : FVec F S4x8192x256 .f32) (main_arg2 : FVec F S2x1024 .f32) (main_arg3 : FVec F S1x128 .f32) (main_arg4 : FVec F S1x4x3072 .f32) (main_arg5 : FVec F S1x8 .f32) (main_arg6 : FVec F S1x8 .f32) (main_arg7 : FVec F S1x128 .f32) (main_arg8 : FVec F S8x128x128 .f32) (main_arg9 : FVec F S8x128x128 .f32) (main_arg10 : FVec F S8x3072 .f32) : IVec S2x1024 1 :=
  let main_v0 : FVec F S2x1024 .f32 := Host.absf main_arg2
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  main_v2
-- ==== Kernel.lean ====
abbrev S4x8192x12288 : Shape := ⟨3, ![4, 8192, 12288]⟩
abbrev S4x8192x256 : Shape := ⟨3, ![4, 8192, 256]⟩
abbrev S2x1024 : Shape := ⟨2, ![2, 1024]⟩
abbrev S1x128 : Shape := ⟨2, ![1, 128]⟩
abbrev S1x4x3072 : Shape := ⟨3, ![1, 4, 3072]⟩
abbrev S1x8 : Shape := ⟨2, ![1, 8]⟩
abbrev S8x128x128 : Shape := ⟨3, ![8, 128, 128]⟩
abbrev S8x3072 : Shape := ⟨2, ![8, 3072]⟩
abbrev S448x64 : Shape := ⟨2, ![448, 64]⟩
abbrev S128x64 : Shape := ⟨2, ![128, 64]⟩
abbrev S64x64 : Shape := ⟨2, ![64, 64]⟩
abbrev S128 : Shape := ⟨1, ![128]⟩
abbrev S4x3072 : Shape := ⟨2, ![4, 3072]⟩
abbrev S8 : Shape := ⟨1, ![8]⟩
abbrev S_ : Shape := ⟨0, ![]⟩
abbrev S4x8192x1024 : Shape := ⟨3, ![4, 8192, 1024]⟩
abbrev S1x64x8192 : Shape := ⟨3, ![1, 64, 8192]⟩
abbrev S1x64x256 : Shape := ⟨3, ![1, 64, 256]⟩
abbrev S1x64x1024 : Shape := ⟨3, ![1, 64, 1024]⟩
abbrev S72x3072 : Shape := ⟨2, ![72, 3072]⟩
abbrev S1024 : Shape := ⟨1, ![1024]⟩
abbrev S1x1024 : Shape := ⟨2, ![1, 1024]⟩
abbrev S1x64x128 : Shape := ⟨3, ![1, 64, 128]⟩
abbrev S64x128 : Shape := ⟨2, ![64, 128]⟩
abbrev S448x128 : Shape := ⟨2, ![448, 128]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩
abbrev S1x64x3072 : Shape := ⟨3, ![1, 64, 3072]⟩
abbrev S64x3072 : Shape := ⟨2, ![64, 3072]⟩
abbrev S1x3072 : Shape := ⟨2, ![1, 3072]⟩
abbrev S1x64 : Shape := ⟨2, ![1, 64]⟩
abbrev S1x1 : Shape := ⟨2, ![1, 1]⟩
abbrev S64x256 : Shape := ⟨2, ![64, 256]⟩

abbrev nBuf : Space → Nat
  | .hbm => 31
  | .vmem => 23
  | .smem => 0
  | _ => 0

abbrev bufTy : (tb : Table) → Fin (tcTables nBuf tb) → BufTy
  | .hbm, ⟨0, _⟩ => ⟨S4x8192x12288, .f32⟩
  | .hbm, ⟨1, _⟩ => ⟨S4x8192x256, .f32⟩
  | .hbm, ⟨2, _⟩ => ⟨S2x1024, .f32⟩
  | .hbm, ⟨3, _⟩ => ⟨S1x128, .f32⟩
  | .hbm, ⟨4, _⟩ => ⟨S1x4x3072, .f32⟩
  | .hbm, ⟨5, _⟩ => ⟨S1x8, .f32⟩
  | .hbm, ⟨6, _⟩ => ⟨S1x8, .f32⟩
  | .hbm, ⟨7, _⟩ => ⟨S1x128, .f32⟩
  | .hbm, ⟨8, _⟩ => ⟨S8x128x128, .f32⟩
  | .hbm, ⟨9, _⟩ => ⟨S8x128x128, .f32⟩
  | .hbm, ⟨10, _⟩ => ⟨S8x3072, .f32⟩
  | .hbm, ⟨11, _⟩ => ⟨S448x64, .bf16⟩
  | .hbm, ⟨12, _⟩ => ⟨S128x64, .bf16⟩
  | .hbm, ⟨13, _⟩ => ⟨S64x64, .i32⟩
  | .hbm, ⟨14, _⟩ => ⟨S128, .f32⟩
  | .hbm, ⟨15, _⟩ => ⟨S1x128, .f32⟩
  | .hbm, ⟨16, _⟩ => ⟨S4x3072, .f32⟩
  | .hbm, ⟨17, _⟩ => ⟨S8, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S1x128, .f32⟩
  | .hbm, ⟨22, _⟩ => ⟨S8, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S128, .f32⟩
  | .hbm, ⟨28, _⟩ => ⟨S1x128, .f32⟩
  | .hbm, ⟨29, _⟩ => ⟨S4x8192x1024, .bf16⟩
  | .hbm, ⟨30, _⟩ => ⟨S4x8192x1024, .bf16⟩
  | .local _ .vmem, ⟨0, _⟩ => ⟨S1x64x8192, .f32⟩
  | .local _ .vmem, ⟨1, _⟩ => ⟨S1x64x8192, .f32⟩
  | .local _ .vmem, ⟨2, _⟩ => ⟨S1x64x256, .f32⟩
  | .local _ .vmem, ⟨3, _⟩ => ⟨S1x64x256, .f32⟩
  | .local _ .vmem, ⟨4, _⟩ => ⟨S2x1024, .f32⟩
  | .local _ .vmem, ⟨5, _⟩ => ⟨S1x128, .f32⟩
  | .local _ .vmem, ⟨6, _⟩ => ⟨S4x3072, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S448x64, .bf16⟩
  | .local _ .vmem, ⟨11, _⟩ => ⟨S128x64, .bf16⟩
  | .local _ .vmem, ⟨12, _⟩ => ⟨S64x64, .i32⟩
  | .local _ .vmem, ⟨13, _⟩ => ⟨S8x128x128, .f32⟩
  | .local _ .vmem, ⟨14, _⟩ => ⟨S8x128x128, .f32⟩
  | .local _ .vmem, ⟨15, _⟩ => ⟨S8x3072, .f32⟩
  | .local _ .vmem, ⟨16, _⟩ => ⟨S1x64x1024, .bf16⟩
  | .local _ .vmem, ⟨17, _⟩ => ⟨S1x64x1024, .bf16⟩
  | .local _ .vmem, ⟨18, _⟩ => ⟨S1x64x1024, .bf16⟩
  | .local _ .vmem, ⟨19, _⟩ => ⟨S1x64x1024, .bf16⟩
  | .local _ .vmem, ⟨20, _⟩ => ⟨S8x128x128, .f32⟩
  | .local _ .vmem, ⟨21, _⟩ => ⟨S8x128x128, .f32⟩
  | .local _ .vmem, ⟨22, _⟩ => ⟨S72x3072, .f32⟩
  | _, _ => ⟨S4x8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_call1_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨2, ![4, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S448x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x64 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S4x8192x12288 : Shape := ⟨3, ![4, 8192, 12288]⟩
abbrev S4x8192x256 : Shape := ⟨3, ![4, 8192, 256]⟩
abbrev S2x1024 : Shape := ⟨2, ![2, 1024]⟩
abbrev S1x128 : Shape := ⟨2, ![1, 128]⟩
abbrev S1x4x3072 : Shape := ⟨3, ![1, 4, 3072]⟩
abbrev S1x8 : Shape := ⟨2, ![1, 8]⟩
abbrev S8x128x128 : Shape := ⟨3, ![8, 128, 128]⟩
abbrev S8x3072 : Shape := ⟨2, ![8, 3072]⟩
abbrev S_ : Shape := ⟨0, ![]⟩
abbrev S1024 : Shape := ⟨1, ![1024]⟩
abbrev S1x1024 : Shape := ⟨2, ![1, 1024]⟩
abbrev S4x8192x1024 : Shape := ⟨3, ![4, 8192, 1024]⟩
abbrev S4x8192x8x128 : Shape := ⟨4, ![4, 8192, 8, 128]⟩
abbrev S4x8x8192x128 : Shape := ⟨4, ![4, 8, 8192, 128]⟩
abbrev S1x1x1024 : Shape := ⟨3, ![1, 1, 1024]⟩
abbrev S1x8x128x128 : Shape := ⟨4, ![1, 8, 128, 128]⟩
abbrev S4x8x128x128 : Shape := ⟨4, ![4, 8, 128, 128]⟩
abbrev S4x8x128x64x128 : Shape := ⟨5, ![4, 8, 128, 64, 128]⟩
abbrev S128x4x8x64x128 : Shape := ⟨5, ![128, 4, 8, 64, 128]⟩
abbrev S1x4x8x64x128 : Shape := ⟨5, ![1, 4, 8, 64, 128]⟩
abbrev S4x8x64x128 : Shape := ⟨4, ![4, 8, 64, 128]⟩
abbrev S64x64 : Shape := ⟨2, ![64, 64]⟩
abbrev S4x8x64x1x128 : Shape := ⟨5, ![4, 8, 64, 1, 128]⟩
abbrev S4x8x1x64x128 : Shape := ⟨5, ![4, 8, 1, 64, 128]⟩
abbrev S4x8x64x64x128 : Shape := ⟨5, ![4, 8, 64, 64, 128]⟩
abbrev S64x64x1 : Shape := ⟨3, ![64, 64, 1]⟩
abbrev S4x8x64x64 : Shape := ⟨4, ![4, 8, 64, 64]⟩
abbrev S4x8x1x128 : Shape := ⟨4, ![4, 8, 1, 128]⟩
abbrev S4x8x128 : Shape := ⟨3, ![4, 8, 128]⟩
abbrev S4x8x128x1 : Shape := ⟨4, ![4, 8, 128, 1]⟩
abbrev S4x8192x8 : Shape := ⟨3, ![4, 8192, 8]⟩
abbrev S4x8192x8x1 : Shape := ⟨4, ![4, 8192, 8, 1]⟩
abbrev S128 : Shape := ⟨1, ![128]⟩
abbrev S1x1x1x128 : Shape := ⟨4, ![1, 1, 1, 128]⟩

abbrev nBuf : Space → Nat
  | .hbm => 225
  | .vmem => 0
  | .smem => 0
  | _ => 0

abbrev hbmTy0_0 (i : Nat) : BufTy := match i % 128 with
  | 0 => ⟨S4x8192x12288, .f32⟩
  | 1 => ⟨S4x8192x256, .f32⟩
  | 2 => ⟨S2x1024, .f32⟩
  | 3 => ⟨S1x128, .f32⟩
  | 4 => ⟨S1x4x3072, .f32⟩
  | 5 => ⟨S1x8, .f32⟩
  | 6 => ⟨S1x8, .f32⟩
  | 7 => ⟨S1x128, .f32⟩
  | 8 => ⟨S8x128x128, .f32⟩
  | 9 => ⟨S8x128x128, .f32⟩
  | 10 => ⟨S8x3072, .f32⟩
  | 11 => ⟨S_, .f32⟩
  | 12 => ⟨S1024, .f32⟩
  | 13 => ⟨S_, .f32⟩
  | 14 => ⟨S1024, .f32⟩
  | 15 => ⟨S1024, .f32⟩
  | 16 => ⟨S1x1024, .f32⟩
  | 17 => ⟨S2x1024, .f32⟩
  | 18 => ⟨S2x1024, .f32⟩
  | 19 => ⟨S2x1024, .f32⟩
  | 20 => ⟨S_, .f32⟩
  | 21 => ⟨S1024, .f32⟩
  | 22 => ⟨S1x1024, .f32⟩
  | 23 => ⟨S2x1024, .f32⟩
  | 24 => ⟨S2x1024, .f32⟩
  | 25 => ⟨S_, .f32⟩
  | 26 => ⟨S_, .f32⟩
  | 27 => ⟨S2x1024, .f32⟩
  | 28 => ⟨S1x1024, .f32⟩
  | 29 => ⟨S1024, .f32⟩
  | 30 => ⟨S4x8192x1024, .f32⟩
  | 31 => ⟨S4x8192x1024, .f32⟩
  | 32 => ⟨S4x8192x1024, .f32⟩
  | 33 => ⟨S4x8192x1024, .f32⟩
  | 34 => ⟨S_, .f32⟩
  | 35 => ⟨S4x8192x1024, .f32⟩
  | 36 => ⟨S4x8192x1024, .f32⟩
  | 37 => ⟨S_, .f32⟩
  | 38 => ⟨S4x8192x1024, .f32⟩
  | 39 => ⟨S4x8192x1024, .f32⟩
  | 40 => ⟨S4x8192x1024, .f32⟩
  | 41 => ⟨S4x8192x8x128, .f32⟩
  | 42 => ⟨S4x8x8192x128, .f32⟩
  | 43 => ⟨S_, .f32⟩
  | 44 => ⟨S1024, .f32⟩
  | 45 => ⟨S1024, .f32⟩
  | 46 => ⟨S4x8192x1024, .f32⟩
  | 47 => ⟨S4x8192x1024, .f32⟩
  | 48 => ⟨S_, .f32⟩
  | 49 => ⟨S4x8192x1024, .f32⟩
  | 50 => ⟨S4x8192x1024, .f32⟩
  | 51 => ⟨S_, .f32⟩
  | 52 => ⟨S4x8192x1024, .f32⟩
  | 53 => ⟨S4x8192x1024, .f32⟩
  | 54 => ⟨S1x1x1024, .f32⟩
  | 55 => ⟨S4x8192x1024, .f32⟩
  | 56 => ⟨S4x8192x1024, .f32⟩
  | 57 => ⟨S1x1x1024, .f32⟩
  | 58 => ⟨S4x8192x1024, .f32⟩
  | 59 => ⟨S4x8192x1024, .f32⟩
  | 60 => ⟨S4x8192x1024, .f32⟩
  | 61 => ⟨S4x8192x8x128, .f32⟩
  | 62 => ⟨S4x8x8192x128, .f32⟩
  | 63 => ⟨S_, .f32⟩
  | 64 => ⟨S1024, .f32⟩
  | 65 => ⟨S1024, .f32⟩
  | 66 => ⟨S4x8192x1024, .f32⟩
  | 67 => ⟨S4x8192x1024, .f32⟩
  | 68 => ⟨S4x8192x1024, .f32⟩
  | 69 => ⟨S_, .f32⟩
  | 70 => ⟨S4x8192x1024, .f32⟩
  | 71 => ⟨S4x8192x1024, .f32⟩
  | 72 => ⟨S_, .f32⟩
  | 73 => ⟨S4x8192x1024, .f32⟩
  | 74 => ⟨S4x8192x1024, .f32⟩
  | 75 => ⟨S1x1x1024, .f32⟩
  | 76 => ⟨S4x8192x1024, .f32⟩
  | 77 => ⟨S4x8192x1024, .f32⟩
  | 78 => ⟨S4x8192x8x128, .f32⟩
  | 79 => ⟨S4x8x8192x128, .f32⟩
  | 80 => ⟨S4x8192x1024, .f32⟩
  | 81 => ⟨S4x8192x8x128, .f32⟩
  | 82 => ⟨S4x8x8192x128, .f32⟩
  | 83 => ⟨S8x128x128, .f32⟩
  | 84 => ⟨S1x8x128x128, .f32⟩
  | 85 => ⟨S4x8x128x128, .f32⟩
  | 86 => ⟨S4x8x128x64x128, .f32⟩
  | 87 => ⟨S128x4x8x64x128, .f32⟩
  | 88 => ⟨S4x8x128x64x128, .f32⟩
  | 89 => ⟨S128x4x8x64x128, .f32⟩
  | 90 => ⟨S4x8x128x64x128, .f32⟩
  | 91 => ⟨S128x4x8x64x128, .f32⟩
  | 92 => ⟨S4x8x128x64x128, .f32⟩
  | 93 => ⟨S128x4x8x64x128, .f32⟩
  | 94 => ⟨S_, .f32⟩
  | 95 => ⟨S128x4x8x64x128, .f32⟩
  | 96 => ⟨S_, .i32⟩
  | 97 => ⟨S128x4x8x64x128, .f32⟩
  | 98 => ⟨S128x4x8x64x128, .f32⟩
  | 99 => ⟨S128x4x8x64x128, .f32⟩
  | 100 => ⟨S128x4x8x64x128, .f32⟩
  | 101 => ⟨S_, .i32⟩
  | 102 => ⟨S4x8x128x128, .f32⟩
  | 103 => ⟨S128x4x8x64x128, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S1x4x8x64x128, .f32⟩
  | 111 => ⟨S4x8x64x128, .f32⟩
  | 112 => ⟨S_, .i32⟩
  | 113 => ⟨S_, .i32⟩
  | 114 => ⟨S_, .i32⟩
  | 115 => ⟨S_, .i32⟩
  | 116 => ⟨S1x4x8x64x128, .f32⟩
  | 117 => ⟨S4x8x64x128, .f32⟩
  | 118 => ⟨S_, .i32⟩
  | 119 => ⟨S_, .i32⟩
  | 120 => ⟨S_, .i32⟩
  | 121 => ⟨S_, .i32⟩
  | 122 => ⟨S1x4x8x64x128, .f32⟩
  | 123 => ⟨S4x8x64x128, .f32⟩
  | 124 => ⟨S_, .i32⟩
  | 125 => ⟨S_, .i32⟩
  | 126 => ⟨S_, .i32⟩
  | 127 => ⟨S_, .i32⟩
  | _ => ⟨S4x8192x12288, .f32⟩

abbrev hbmTy0_1 (i : Nat) : BufTy := match i % 128 with
  | 0 => ⟨S1x4x8x64x128, .f32⟩
  | 1 => ⟨S4x8x64x128, .f32⟩
  | 2 => ⟨S_, .f32⟩
  | 3 => ⟨S_, .f32⟩
  | 4 => ⟨S4x8x64x128, .f32⟩
  | 5 => ⟨S_, .i1⟩
  | 6 => ⟨S64x64, .i1⟩
  | 7 => ⟨S64x64, .i32⟩
  | 8 => ⟨S_, .i32⟩
  | 9 => ⟨S64x64, .i32⟩
  | 10 => ⟨S64x64, .i32⟩
  | 11 => ⟨S64x64, .i32⟩
  | 12 => ⟨S64x64, .i1⟩
  | 13 => ⟨S_, .i1⟩
  | 14 => ⟨S64x64, .i1⟩
  | 15 => ⟨S64x64, .i1⟩
  | 16 => ⟨S4x8x64x1x128, .f32⟩
  | 17 => ⟨S4x8x1x64x128, .f32⟩
  | 18 => ⟨S4x8x64x64x128, .f32⟩
  | 19 => ⟨S4x8x64x64x128, .f32⟩
  | 20 => ⟨S4x8x64x64x128, .f32⟩
  | 21 => ⟨S64x64x1, .i1⟩
  | 22 => ⟨S_, .f32⟩
  | 23 => ⟨S4x8x64x64x128, .f32⟩
  | 24 => ⟨S4x8x64x64x128, .f32⟩
  | 25 => ⟨S4x8x64x64x128, .f32⟩
  | 26 => ⟨S_, .f32⟩
  | 27 => ⟨S4x8x64x64x128, .i1⟩
  | 28 => ⟨S4x8x64x64x128, .f32⟩
  | 29 => ⟨S4x8x64x64x128, .f32⟩
  | 30 => ⟨S4x8x64x1x128, .f32⟩
  | 31 => ⟨S4x8x1x64x128, .f32⟩
  | 32 => ⟨S4x8x64x64x128, .f32⟩
  | 33 => ⟨S4x8x64x64x128, .f32⟩
  | 34 => ⟨S4x8x64x64x128, .f32⟩
  | 35 => ⟨S4x8x64x64x128, .f32⟩
  | 36 => ⟨S_, .f32⟩
  | 37 => ⟨S4x8x64x64, .f32⟩
  | 38 => ⟨S4x8x64x128, .f32⟩
  | 39 => ⟨S4x8x64x128, .f32⟩
  | 40 => ⟨S4x8x64x128, .f32⟩
  | 41 => ⟨S4x8x64x128, .f32⟩
  | 42 => ⟨S4x8x64x128, .f32⟩
  | 43 => ⟨S4x8x1x128, .f32⟩
  | 44 => ⟨S4x8x128, .f32⟩
  | 45 => ⟨S4x8x128, .f32⟩
  | 46 => ⟨S4x8x128x1, .f32⟩
  | 47 => ⟨S4x8x128x128, .f32⟩
  | 48 => ⟨S4x8x128x128, .f32⟩
  | 49 => ⟨S4x8x64x128, .f32⟩
  | 50 => ⟨S4x8x64x128, .f32⟩
  | 51 => ⟨S4x8x64x128, .f32⟩
  | 52 => ⟨S4x8x64x128, .f32⟩
  | 53 => ⟨S4x8x128x128, .f32⟩
  | 54 => ⟨S4x8x128x128, .f32⟩
  | 55 => ⟨S1x4x8x64x128, .f32⟩
  | 56 => ⟨S_, .i32⟩
  | 57 => ⟨S_, .i32⟩
  | 58 => ⟨S_, .i32⟩
  | 59 => ⟨S_, .i32⟩
  | 60 => ⟨S128x4x8x64x128, .f32⟩
  | 61 => ⟨S_, .i32⟩
  | 62 => ⟨S_, .i32⟩
  | 63 => ⟨S4x8x128x64x128, .f32⟩
  | 64 => ⟨S4x8x8192x128, .f32⟩
  | 65 => ⟨S4x8192x8x128, .f32⟩
  | 66 => ⟨S4x8192x8x128, .f32⟩
  | 67 => ⟨S_, .f32⟩
  | 68 => ⟨S4x8192x8, .f32⟩
  | 69 => ⟨S4x8192x8x1, .f32⟩
  | 70 => ⟨S_, .f32⟩
  | 71 => ⟨S4x8192x8x1, .f32⟩
  | 72 => ⟨S4x8192x8x1, .f32⟩
  | 73 => ⟨S_, .f32⟩
  | 74 => ⟨S4x8192x8x1, .f32⟩
  | 75 => ⟨S4x8192x8x1, .f32⟩
  | 76 => ⟨S4x8192x8x1, .f32⟩
  | 77 => ⟨S4x8192x8x128, .f32⟩
  | 78 => ⟨S4x8192x8x128, .f32⟩
  | 79 => ⟨S128, .f32⟩
  | 80 => ⟨S1x1x1x128, .f32⟩
  | 81 => ⟨S4x8192x8x128, .f32⟩
  | 82 => ⟨S4x8192x8x128, .f32⟩
  | 83 => ⟨S4x8192x1024, .f32⟩
  | 84 => ⟨S4x8192x8x128, .f32⟩
  | 85 => ⟨S4x8192x8x128, .f32⟩
  | 86 => ⟨S4x8192x8x128, .f32⟩
  | 87 => ⟨S_, .f32⟩
  | 88 => ⟨S4x8192x8x128, .f32⟩
  | 89 => ⟨S4x8192x8x128, .f32⟩
  | 90 => ⟨S_, .f32⟩
  | 91 => ⟨S4x8192x8x128, .f32⟩
  | 92 => ⟨S4x8192x8x128, .f32⟩
  | 93 => ⟨S4x8192x8x128, .f32⟩
  | 94 => ⟨S4x8192x8x128, .f32⟩
  | 95 => ⟨S4x8192x1024, .f32⟩
  | 96 => ⟨S4x8192x1024, .bf16⟩
  | _ => ⟨S4x8192x12288, .f32⟩

abbrev hbmTy (i : Nat) : BufTy := match i / 128 with
  | 0 => hbmTy0_0 i
  | 1 => hbmTy0_1 i
  | _ => ⟨S4x8192x12288, .f32⟩

abbrev bufTy : (tb : Table) → Fin (tcTables nBuf tb) → BufTy
  | .hbm, ⟨i, _⟩ => hbmTy i
  | _, _ => ⟨S4x8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call0_call0_cst : Ref sig .tc := ⟨.hbm, 25, rfl⟩
abbrev main_call0_call0_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_cst_4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_8 : Ref sig .tc := ⟨.hbm, 94, rfl⟩
abbrev main_v64 : Ref sig .tc := ⟨.hbm, 95, rfl⟩
abbrev main_c : Ref sig .tc := ⟨.hbm, 96, rfl⟩
abbrev main_v65_0 : Ref sig .tc := ⟨.hbm, 97, rfl⟩
abbrev main_v65_1 : Ref sig .tc := ⟨.hbm, 98, rfl⟩
abbrev main_v65_2 : Ref sig .tc := ⟨.hbm, 99, rfl⟩
abbrev main_v65_3 : Ref sig .tc := ⟨.hbm, 100, rfl⟩
abbrev main_v65_4 : Ref sig .tc := ⟨.hbm, 101, rfl⟩
abbrev main_v65_5 : Ref sig .tc := ⟨.hbm, 102, rfl⟩
abbrev main_v65_6 : Ref sig .tc := ⟨.hbm, 103, rfl⟩
abbrev main_while0c_c_18 : Ref sig .tc := ⟨.hbm, 104, rfl⟩
abbrev main_while0c_v89 : Ref sig .tc := ⟨.hbm, 105, rfl⟩
abbrev main_while0b_call2_c : Ref sig .tc := ⟨.hbm, 106, rfl⟩
abbrev main_while0b_call2_c_0 : Ref sig .tc := ⟨.hbm, 107, rfl⟩
abbrev main_while0b_call2_c_1 : Ref sig .tc := ⟨.hbm, 108, rfl⟩
abbrev main_while0b_call2_c_2 : Ref sig .tc := ⟨.hbm, 109, rfl⟩
abbrev main_while0b_call2_v0 : Ref sig .tc := ⟨.hbm, 110, rfl⟩
abbrev main_while0b_v89 : Ref sig .tc := ⟨.hbm, 111, rfl⟩
abbrev main_while0b_call3_c : Ref sig .tc := ⟨.hbm, 112, rfl⟩
abbrev main_while0b_call3_c_0 : Ref sig .tc := ⟨.hbm, 113, rfl⟩
abbrev main_while0b_call3_c_1 : Ref sig .tc := ⟨.hbm, 114, rfl⟩
abbrev main_while0b_call3_c_2 : Ref sig .tc := ⟨.hbm, 115, rfl⟩
abbrev main_while0b_call3_v0 : Ref sig .tc := ⟨.hbm, 116, rfl⟩
abbrev main_while0b_v90 : Ref sig .tc := ⟨.hbm, 117, rfl⟩
abbrev main_while0b_call4_c : Ref sig .tc := ⟨.hbm, 118, rfl⟩
abbrev main_while0b_call4_c_0 : Ref sig .tc := ⟨.hbm, 119, rfl⟩
abbrev main_while0b_call4_c_1 : Ref sig .tc := ⟨.hbm, 120, rfl⟩
abbrev main_while0b_call4_c_2 : Ref sig .tc := ⟨.hbm, 121, rfl⟩
abbrev main_while0b_call4_v0 : Ref sig .tc := ⟨.hbm, 122, rfl⟩
abbrev main_while0b_v91 : Ref sig .tc := ⟨.hbm, 123, rfl⟩
abbrev main_while0b_call5_c : Ref sig .tc := ⟨.hbm, 124, rfl⟩
abbrev main_while0b_call5_c_0 : Ref sig .tc := ⟨.hbm, 125, rfl⟩
abbrev main_while0b_call5_c_1 : Ref sig .tc := ⟨.hbm, 126, rfl⟩
abbrev main_while0b_call5_c_2 : Ref sig .tc := ⟨.hbm, 127, rfl⟩
abbrev main_while0b_call5_v0 : Ref sig .tc := ⟨.hbm, 128, rfl⟩
abbrev main_while0b_v92 : Ref sig .tc := ⟨.hbm, 129, rfl⟩
abbrev main_while0b_call6_call0_cst : Ref sig .tc := ⟨.hbm, 130, rfl⟩
abbrev main_while0b_call6_call0_v0 : Ref sig .tc := ⟨.hbm, 131, rfl⟩
abbrev main_while0b_v93 : Ref sig .tc := ⟨.hbm, 132, rfl⟩
abbrev main_while0b_c_18 : Ref sig .tc := ⟨.hbm, 133, rfl⟩
abbrev main_while0b_v94 : Ref sig .tc := ⟨.hbm, 134, rfl⟩
abbrev main_while0b_call7_v0 : Ref sig .tc := ⟨.hbm, 135, rfl⟩
abbrev main_while0b_call7_c : Ref sig .tc := ⟨.hbm, 136, rfl⟩
abbrev main_while0b_call7_v1 : Ref sig .tc := ⟨.hbm, 137, rfl⟩
abbrev main_while0b_call7_v2 : Ref sig .tc := ⟨.hbm, 138, rfl⟩
abbrev main_while0b_call7_v3 : Ref sig .tc := ⟨.hbm, 139, rfl⟩
abbrev main_while0b_call7_v4 : Ref sig .tc := ⟨.hbm, 140, rfl⟩
abbrev main_while0b_call7_c_0 : Ref sig .tc := ⟨.hbm, 141, rfl⟩
abbrev main_while0b_call7_v5 : Ref sig .tc := ⟨.hbm, 142, rfl⟩
abbrev main_while0b_v95 : Ref sig .tc := ⟨.hbm, 143, rfl⟩
abbrev main_while0b_v96 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_cst_19 : Ref sig .tc := ⟨.hbm, 150, rfl⟩
abbrev main_while0b_v102 : Ref sig .tc := ⟨.hbm, 151, rfl⟩
abbrev main_while0b_v103 : Ref sig .tc := ⟨.hbm, 152, rfl⟩
abbrev main_while0b_v104 : Ref sig .tc := ⟨.hbm, 153, rfl⟩
abbrev main_while0b_cst_20 : Ref sig .tc := ⟨.hbm, 154, rfl⟩
abbrev main_while0b_call8_v0 : Ref sig .tc := ⟨.hbm, 155, rfl⟩
abbrev main_while0b_call8_v1 : Ref sig .tc := ⟨.hbm, 156, rfl⟩
abbrev main_while0b_v105 : Ref sig .tc := ⟨.hbm, 157, rfl⟩
abbrev main_while0b_v106 : Ref sig .tc := ⟨.hbm, 158, rfl⟩
abbrev main_while0b_v107 : Ref sig .tc := ⟨.hbm, 159, rfl⟩
abbrev main_while0b_v108 : Ref sig .tc := ⟨.hbm, 160, rfl⟩
abbrev main_while0b_v109 : Ref sig .tc := ⟨.hbm, 161, rfl⟩
abbrev main_while0b_v110 : Ref sig .tc := ⟨.hbm, 162, rfl⟩
abbrev main_while0b_v111 : Ref sig .tc := ⟨.hbm, 163, rfl⟩
abbrev main_while0b_cst_21 : Ref sig .tc := ⟨.hbm, 164, rfl⟩
abbrev main_while0b_v112 : Ref sig .tc := ⟨.hbm, 165, rfl⟩
abbrev main_while0b_v113 : Ref sig .tc := ⟨.hbm, 166, rfl⟩
abbrev main_while0b_v114 : Ref sig .tc := ⟨.hbm, 167, rfl⟩
abbrev main_while0b_v115 : Ref sig .tc := ⟨.hbm, 168, rfl⟩
abbrev main_while0b_v116 : Ref sig .tc := ⟨.hbm, 169, rfl⟩
abbrev main_while0b_v117 : Ref sig .tc := ⟨.hbm, 170, rfl⟩
abbrev main_while0b_v118 : Ref sig .tc := ⟨.hbm, 171, rfl⟩
abbrev main_while0b_v119 : Ref sig .tc := ⟨.hbm, 172, rfl⟩
abbrev main_while0b_v120 : Ref sig .tc := ⟨.hbm, 173, rfl⟩
abbrev main_while0b_v121 : Ref sig .tc := ⟨.hbm, 174, rfl⟩
abbrev main_while0b_v122 : Ref sig .tc := ⟨.hbm, 175, rfl⟩
abbrev main_while0b_v123 : Ref sig .tc := ⟨.hbm, 176, rfl⟩
abbrev main_while0b_v124 : Ref sig .tc := ⟨.hbm, 177, rfl⟩
abbrev main_while0b_v125 : Ref sig .tc := ⟨.hbm, 178, rfl⟩
abbrev main_while0b_v126 : Ref sig .tc := ⟨.hbm, 179, rfl⟩
abbrev main_while0b_v127 : Ref sig .tc := ⟨.hbm, 180, rfl⟩
abbrev main_while0b_v128 : Ref sig .tc := ⟨.hbm, 181, rfl⟩
abbrev main_while0b_v129 : Ref sig .tc := ⟨.hbm, 182, rfl⟩
abbrev main_while0b_call9_v0 : Ref sig .tc := ⟨.hbm, 183, rfl⟩
abbrev main_while0b_call9_c : Ref sig .tc := ⟨.hbm, 184, rfl⟩
abbrev main_while0b_call9_c_0 : Ref sig .tc := ⟨.hbm, 185, rfl⟩
abbrev main_while0b_call9_c_1 : Ref sig .tc := ⟨.hbm, 186, rfl⟩
abbrev main_while0b_call9_c_2 : Ref sig .tc := ⟨.hbm, 187, rfl⟩
abbrev main_while0b_v130 : Ref sig .tc := ⟨.hbm, 188, rfl⟩
abbrev main_while0b_c_22 : Ref sig .tc := ⟨.hbm, 189, rfl⟩
abbrev main_while0b_v131 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩
abbrev main_v69 : Ref sig .tc := ⟨.hbm, 194, rfl⟩
abbrev main_cst_9 : Ref sig .tc := ⟨.hbm, 195, rfl⟩
abbrev main_v70 : Ref sig .tc := ⟨.hbm, 196, rfl⟩
abbrev main_v71 : Ref sig .tc := ⟨.hbm, 197, rfl⟩
abbrev main_cst_10 : Ref sig .tc := ⟨.hbm, 198, rfl⟩
abbrev main_v72 : Ref sig .tc := ⟨.hbm, 199, rfl⟩
abbrev main_v73 : Ref sig .tc := ⟨.hbm, 200, rfl⟩
abbrev main_cst_11 : Ref sig .tc := ⟨.hbm, 201, rfl⟩
abbrev main_v74 : Ref sig .tc := ⟨.hbm, 202, rfl⟩
abbrev main_v75 : Ref sig .tc := ⟨.hbm, 203, rfl⟩
abbrev main_v76 : Ref sig .tc := ⟨.hbm, 204, rfl⟩
abbrev main_v77 : Ref sig .tc := ⟨.hbm, 205, rfl⟩
abbrev main_v78 : Ref sig .tc := ⟨.hbm, 206, rfl⟩
abbrev main_v79 : Ref sig .tc := ⟨.hbm, 207, rfl⟩
abbrev main_v80 : Ref sig .tc := ⟨.hbm, 208, rfl⟩
abbrev main_v81 : Ref sig .tc := ⟨.hbm, 209, rfl⟩
abbrev main_v82 : Ref sig .tc := ⟨.hbm, 210, rfl⟩
abbrev main_v83 : Ref sig .tc := ⟨.hbm, 211, rfl⟩
abbrev main_v84 : Ref sig .tc := ⟨.hbm, 212, rfl⟩
abbrev main_call10_v0 : Ref sig .tc := ⟨.hbm, 213, rfl⟩
abbrev main_call10_v1 : Ref sig .tc := ⟨.hbm, 214, rfl⟩
abbrev main_call10_cst : Ref sig .tc := ⟨.hbm, 215, rfl⟩
abbrev main_call10_v2 : Ref sig .tc := ⟨.hbm, 216, rfl⟩
abbrev main_call10_v3 : Ref sig .tc := ⟨.hbm, 217, rfl⟩
abbrev main_call10_cst_0 : Ref sig .tc := ⟨.hbm, 218, rfl⟩
abbrev main_call10_v4 : Ref sig .tc := ⟨.hbm, 219, rfl⟩
abbrev main_call10_v5 : Ref sig .tc := ⟨.hbm, 220, rfl⟩
abbrev main_v85 : Ref sig .tc := ⟨.hbm, 221, rfl⟩
abbrev main_v86 : Ref sig .tc := ⟨.hbm, 222, rfl⟩
abbrev main_v87 : Ref sig .tc := ⟨.hbm, 223, rfl⟩
abbrev main_v88 : Ref sig .tc := ⟨.hbm, 224, rfl⟩

abbrev nD : Nat := 1
abbrev τ : Topo := Topo.v7x

variable {F : FTy → Type} [FloatOps F]

abbrev main_while0_count : Scf.Loop 32 := ⟨0#32, 128#32, 1#32⟩
-- ==== Ffn.lean ====
abbrev S32768x2048 : Shape := ⟨2, ![32768, 2048]⟩
abbrev S1x2048x11264 : Shape := ⟨3, ![1, 2048, 11264]⟩
abbrev S1x5632x2048 : Shape := ⟨3, ![1, 5632, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S2048x11264, .f32⟩
  | .hbm, ⟨6, _⟩ => ⟨S2048x11264, .bf16⟩
  | .hbm, ⟨7, _⟩ => ⟨S5632x2048, .f32⟩
  | .hbm, ⟨8, _⟩ => ⟨S5632x2048, .bf16⟩
  | .hbm, ⟨9, _⟩ => ⟨S1x2048, .f32⟩
  | .hbm, ⟨10, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 11], ![false, false]⟩

def k0_cond1 (i : grid0.Coords) : BitVec 1 :=
  let arg1 : BitVec 32 := BitVec.ofNat 32 (i 1).val
  let c0_i32 : BitVec 32 := 0#32
  let v14 : BitVec 1 := Scalar.cmpi .eq arg1 c0_i32
  let v15 : BitVec 32 := Scalar.extui v14
  let c0_i32_9 : BitVec 32 := 0#32
  let v16 : BitVec 1 := Scalar.cmpi .ne v15 c0_i32_9
  v16

def k0_cond2 (i : grid0.Coords) : BitVec 1 :=
  let arg1 : BitVec 32 := BitVec.ofNat 32 (i 1).val
  let c0_i32_10 : BitVec 32 := 0#32
  let v17 : BitVec 1 := Scalar.cmpi .sgt arg1 c0_i32_10
  let v18 : BitVec 32 := Scalar.extui v17
  let c0_i32_11 : BitVec 32 := 0#32
  let v19 : BitVec 1 := Scalar.cmpi .ne v18 c0_i32_11
  v19

def k0_cond3 (i : grid0.Coords) : BitVec 1 :=
  let arg1 : BitVec 32 := BitVec.ofNat 32 (i 1).val
  let c10_i32 : BitVec 32 := 10#32
  let v20 : BitVec 1 := Scalar.cmpi .eq arg1 c10_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S32768x2048 : Shape := ⟨2, ![32768, 2048]⟩
abbrev S1x2048x11264 : Shape := ⟨3, ![1, 2048, 11264]⟩
abbrev S1x5632x2048 : Shape := ⟨3, ![1, 5632, 2048]⟩
abbrev S2048 : Shape := ⟨1, ![2048]⟩
abbrev S2048x11264 : Shape := ⟨2, ![2048, 11264]⟩
abbrev S32768x11264 : Shape := ⟨2, ![32768, 11264]⟩
abbrev S32768x5632 : Shape := ⟨2, ![32768, 5632]⟩
abbrev S_ : Shape := ⟨0, ![]⟩
abbrev S5632x2048 : Shape := ⟨2, ![5632, 2048]⟩
abbrev S32768 : Shape := ⟨1, ![32768]⟩
abbrev S32768x1 : Shape := ⟨2, ![32768, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .f32⟩
  | .hbm, ⟨2, _⟩ => ⟨S1x2048x11264, .f32⟩
  | .hbm, ⟨3, _⟩ => ⟨S1x5632x2048, .f32⟩
  | .hbm, ⟨4, _⟩ => ⟨S2048, .f32⟩
  | .hbm, ⟨5, _⟩ => ⟨S32768x2048, .f32⟩
  | .hbm, ⟨6, _⟩ => ⟨S2048x11264, .f32⟩
  | .hbm, ⟨7, _⟩ => ⟨S32768x11264, .f32⟩
  | .hbm, ⟨8, _⟩ => ⟨S32768x5632, .f32⟩
  | .hbm, ⟨9, _⟩ => ⟨S32768x5632, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S_, .f32⟩
  | .hbm, ⟨16, _⟩ => ⟨S32768x5632, .f32⟩
  | .hbm, ⟨17, _⟩ => ⟨S32768x5632, .f32⟩
  | .hbm, ⟨18, _⟩ => ⟨S32768x5632, .f32⟩
  | .hbm, ⟨19, _⟩ => ⟨S32768x5632, .f32⟩
  | .hbm, ⟨20, _⟩ => ⟨S5632x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== InProj.lean ====
abbrev S4x8192x2048 : Shape := ⟨3, ![4, 8192, 2048]⟩
abbrev S1x2048 : Shape := ⟨2, ![1, 2048]⟩
abbrev S1x2048x12304 : Shape := ⟨3, ![1, 2048, 12304]⟩
abbrev S2048x12304 : Shape := ⟨2, ![2048, 12304]⟩
abbrev S2048x8192 : Shape := ⟨2, ![2048, 8192]⟩
abbrev S2048x4096 : Shape := ⟨2, ![2048, 4096]⟩
abbrev S2048x12288 : Shape := ⟨2, ![2048, 12288]⟩
abbrev S_ : Shape := ⟨0, ![]⟩
abbrev S2048x120 : Shape := ⟨2, ![2048, 120]⟩
abbrev S2048x8 : Shape := ⟨2, ![2048, 8]⟩
abbrev S2048x256 : Shape := ⟨2, ![2048, 256]⟩
abbrev S32768x2048 : Shape := ⟨2, ![32768, 2048]⟩
abbrev S2048 : Shape := ⟨1, ![2048]⟩
abbrev S32768x12288 : Shape := ⟨2, ![32768, 12288]⟩
abbrev S32768x256 : Shape := ⟨2, ![32768, 256]⟩
abbrev S512x2048 : Shape := ⟨2, ![512, 2048]⟩
abbrev S2048x1024 : Shape := ⟨2, ![2048, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 19
  | .vmem => 11
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x12304, .f32⟩
  | .hbm, ⟨3, _⟩ => ⟨S2048x12304, .f32⟩
  | .hbm, ⟨4, _⟩ => ⟨S2048x8192, .f32⟩
  | .hbm, ⟨5, _⟩ => ⟨S2048x4096, .f32⟩
  | .hbm, ⟨6, _⟩ => ⟨S2048x12288, .f32⟩
  | .hbm, ⟨7, _⟩ => ⟨S2048x12288, .bf16⟩
  | .hbm, ⟨8, _⟩ => ⟨S_, .f32⟩
  | .hbm, ⟨9, _⟩ => ⟨S2048x120, .f32⟩
  | .hbm, ⟨10, _⟩ => ⟨S2048x8, .f32⟩
  | .hbm, ⟨11, _⟩ => ⟨S2048x8, .f32⟩
  | .hbm, ⟨12, _⟩ => ⟨S2048x256, .f32⟩
  | .hbm, ⟨13, _⟩ => ⟨S2048x256, .bf16⟩
  | .hbm, ⟨14, _⟩ => ⟨S32768x2048, .f32⟩
  | .hbm, ⟨15, _⟩ => ⟨S2048, .f32⟩
  | .hbm, ⟨16, _⟩ => ⟨S1x2048, .f32⟩
  | .hbm, ⟨17, _⟩ => ⟨S32768x12288, .f32⟩
  | .hbm, ⟨18, _⟩ => ⟨S32768x256, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x256, .bf16⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjRefIdeal.lean ====
abbrev S4x8192x2048 : Shape := ⟨3, ![4, 8192, 2048]⟩
abbrev S1x2048 : Shape := ⟨2, ![1, 2048]⟩
abbrev S1x2048x12304 : Shape := ⟨3, ![1, 2048, 12304]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x12304 : Shape := ⟨2, ![2048, 12304]⟩
abbrev S32768x12304 : Shape := ⟨2, ![32768, 12304]⟩
abbrev S32768x8 : Shape := ⟨2, ![32768, 8]⟩
abbrev S32768x120 : Shape := ⟨2, ![32768, 120]⟩
abbrev S32768x8192 : Shape := ⟨2, ![32768, 8192]⟩
abbrev S32768x4096 : Shape := ⟨2, ![32768, 4096]⟩
abbrev S32768x12288 : Shape := ⟨2, ![32768, 12288]⟩
abbrev S32768x256 : Shape := ⟨2, ![32768, 256]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048, .f32⟩
  | .hbm, ⟨2, _⟩ => ⟨S1x2048x12304, .f32⟩
  | .hbm, ⟨3, _⟩ => ⟨S32768x2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S2048x12304, .f32⟩
  | .hbm, ⟨22, _⟩ => ⟨S32768x12304, .f32⟩
  | .hbm, ⟨23, _⟩ => ⟨S32768x8, .f32⟩
  | .hbm, ⟨24, _⟩ => ⟨S32768x8, .f32⟩
  | .hbm, ⟨25, _⟩ => ⟨S_, .f32⟩
  | .hbm, ⟨26, _⟩ => ⟨S32768x120, .f32⟩
  | .hbm, ⟨27, _⟩ => ⟨S32768x8192, .f32⟩
  | .hbm, ⟨28, _⟩ => ⟨S32768x4096, .f32⟩
  | .hbm, ⟨29, _⟩ => ⟨S32768x12288, .f32⟩
  | .hbm, ⟨30, _⟩ => ⟨S32768x256, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Merge.lean ====
abbrev S4x8192x1024 : Shape := ⟨3, ![4, 8192, 1024]⟩
abbrev S32768x12288 : Shape := ⟨2, ![32768, 12288]⟩
abbrev S4x8192x2048 : Shape := ⟨3, ![4, 8192, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S32768x1024 : Shape := ⟨2, ![32768, 1024]⟩
abbrev S32768x2048 : Shape := ⟨2, ![32768, 2048]⟩
abbrev S1024x2048 : Shape := ⟨2, ![1024, 2048]⟩
abbrev S2048x2048 : Shape := ⟨2, ![2048, 2048]⟩
abbrev S2048 : Shape := ⟨1, ![2048]⟩
abbrev S256x1024 : Shape := ⟨2, ![256, 1024]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 16
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S32768x12288, .f32⟩
  | .hbm, ⟨3, _⟩ => ⟨S4x8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S32768x1024, .bf16⟩
  | .hbm, ⟨9, _⟩ => ⟨S32768x1024, .bf16⟩
  | .hbm, ⟨10, _⟩ => ⟨S32768x2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S2048x2048, .f32⟩
  | .hbm, ⟨16, _⟩ => ⟨S2048x2048, .bf16⟩
  | .hbm, ⟨17, _⟩ => ⟨S2048, .f32⟩
  | .hbm, ⟨18, _⟩ => ⟨S1x2048, .f32⟩
  | .hbm, ⟨19, _⟩ => ⟨S32768x2048, .f32⟩
  | .hbm, ⟨20, _⟩ => ⟨S32768x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x4096, .f32⟩
  | .local _ .vmem, ⟨5, _⟩ => ⟨S256x4096, .f32⟩
  | .local _ .vmem, ⟨6, _⟩ => ⟨S256x2048, .f32⟩
  | .local _ .vmem, ⟨7, _⟩ => ⟨S256x2048, .f32⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S4x8192x1024 : Shape := ⟨3, ![4, 8192, 1024]⟩
abbrev S32768x12288 : Shape := ⟨2, ![32768, 12288]⟩
abbrev S4x8192x2048 : Shape := ⟨3, ![4, 8192, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S32768x1024 : Shape := ⟨2, ![32768, 1024]⟩
abbrev S1024x2048 : Shape := ⟨2, ![1024, 2048]⟩
abbrev S32768x2048 : Shape := ⟨2, ![32768, 2048]⟩
abbrev S_ : Shape := ⟨0, ![]⟩
abbrev S2048x2048 : Shape := ⟨2, ![2048, 2048]⟩
abbrev S2048 : Shape := ⟨1, ![2048]⟩
abbrev S32768 : Shape := ⟨1, ![32768]⟩
abbrev S32768x1 : Shape := ⟨2, ![32768, 1]⟩

abbrev nBuf : Space → Nat
  | .hbm => 59
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S32768x12288, .f32⟩
  | .hbm, ⟨3, _⟩ => ⟨S4x8192x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S32768x1024, .bf16⟩
  | .hbm, ⟨9, _⟩ => ⟨S32768x1024, .f32⟩
  | .hbm, ⟨10, _⟩ => ⟨S1024x2048, .f32⟩
  | .hbm, ⟨11, _⟩ => ⟨S32768x2048, .f32⟩
  | .hbm, ⟨12, _⟩ => ⟨S32768x1024, .bf16⟩
  | .hbm, ⟨13, _⟩ => ⟨S32768x1024, .f32⟩
  | .hbm, ⟨14, _⟩ => ⟨S1024x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S2048x2048, .f32⟩
  | .hbm, ⟨39, _⟩ => ⟨S32768x2048, .f32⟩
  | .hbm, ⟨40, _⟩ => ⟨S32768x2048, .f32⟩
  | .hbm, ⟨41, _⟩ => ⟨S2048, .f32⟩
  | .hbm, ⟨42, _⟩ => ⟨S32768x2048, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x2048, .f32⟩
  | .hbm, ⟨54, _⟩ => ⟨S32768x2048, .f32⟩
  | .hbm, ⟨55, _⟩ => ⟨S1x2048, .f32⟩
  | .hbm, ⟨56, _⟩ => ⟨S32768x2048, .f32⟩
  | .hbm, ⟨57, _⟩ => ⟨S32768x2048, .f32⟩
  | .hbm, ⟨58, _⟩ => ⟨S32768x2048, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Proof.Ffn.lean ====
/-
  The feed-forward call: what its last step leaves in the result is the norm of the residual plus the two products.
-/
module

public import proofs.«01_k».proof.Proof.Gen.FfnIdeal.Value
public import proofs.«01_k».proof.Proof.Gen.FfnRefIdeal.Read
public import Idealize.ShloMosaic.Lib.Pipeline.ValueKit.Point
public import Idealize.ShloMosaic.Lib.Pipeline.ReadBack

@[expose] public section

set_option maxRecDepth 16384
set_option maxHeartbeats 1000000

noncomputable section

open Idealize.ShloMosaic

namespace Cert.Ffn.Value

open Cert.FfnIdeal Cert.FfnIdeal.Gen Cert.FfnIdeal.Value

/-- One hidden unit's share: the gate's silu times the other half. -/
def hid (x : Fin 2048 → EReal) (g u : Fin 2048 → EReal) : EReal :=
  (∑ k, x k * g k) * Ideal.logistic (∑ k, x k * g k) * (∑ k, x k * u k)

/-- The norm of a row. -/
def normed (x : Fin 2048 → EReal) (w : EReal) (q : Fin 2048) : EReal :=
  x q * Ideal.rsqrt (Ideal.div (∑ c, x c * x c) (Ideal.ofBits .f32 0x45000000#32) + Ideal.ofBits .f32 0x358637BD#32) * w

/-- The residual plus the feed-forward's products, at a row and a column. -/
def row (x0 : Vec Ideal S32768x2048 .bf16) (x1 : Vec Ideal S32768x2048 .f32) (x2 : Vec Ideal S1x2048x11264 .f32)
    (x3 : Vec Ideal S1x5632x2048 .f32) (r : Fin 32768) (c : Fin 2048) : EReal :=
  x1 (ix2 r c) + ∑ l : Fin 5632, hid (fun k => x0 (ix2 r k)) (fun k => x2 (ix3 0 k ⟨l.val, by omega⟩))
    (fun k => x2 (ix3 0 k ⟨5632 + l.val, by omega⟩)) * x3 (ix3 0 l c)

theorem pay1_apply (v0 : Vec Ideal S512x2048 .bf16) (v1 v4 : Vec Ideal S2048x512 .bf16) (v11 : Vec Ideal S512x2048 .bf16)
    (r : Fin 512) (q : Fin 2048) :
    k0_pay1 v0 v1 v4 v11 (ix2 r q)
      = ∑ l : Fin 512, hid (fun k => v0 (ix2 r k)) (fun k => v1 (ix2 k l)) (fun k => v4 (ix2 k l)) * v11 (ix2 l q) := by
  pointwise [k0_pay1, hid, dot_S512x2048_S2048x512_S512x512_1_0_0_1_n_n, dot_S512x512_S512x2048_S512x2048_1_0_0_1_n_n]

theorem pay4_apply (v : Vec Ideal S512x2048 .f32) (w : Vec Ideal S1x2048 .f32) (r : Fin 512) (q : Fin 2048) :
    k0_pay4 v w (ix2 r q) = normed (fun c => v (ix2 r c)) (w (ix2 0 q)) q := by
  pointwise [k0_pay4, normed]

variable (m : (ℓ : Loc nD τ sig) → Buf (Elt Ideal) ℓ)

/-- The products of one point. -/
def part (c : Dev nD) (t : Fin cfg0.N) : Vec Ideal S512x2048 .f32 :=
  k0_pay1 (iblk m c 0 t) (iblk m c 2 t) (iblk m c 3 t) (iblk m c 4 t)

/-- The residual's block. -/
def resid (c : Dev nD) (t : Fin cfg0.N) : Vec Ideal S512x2048 .f32 := iblk m c 1 t

theorem outs_A (c : Dev nD) (t : Fin cfg0.N) (h0 : t.val % 11 = 0) (i : S512x2048.Idx) :
    outsAt0 m c t.val t.isLt i = resid m c t i + part m c t i := by
  rw [outsAt0_A m c t h0 (by omega) (by omega)]
  frame_out
  rfl

theorem outs_B (c : Dev nD) (t : Fin cfg0.N) (h0 : ¬ t.val % 11 = 0) (h2 : ¬ t.val % 11 = 10) (i : S512x2048.Idx) :
    outsAt0 m c t.val t.isLt i
      = outsAt0 m c (t.val - 1) (Nat.lt_of_le_of_lt (Nat.sub_le _ _) t.isLt) i + part m c t i := by
  rw [outsAt0_B m c t h0 (by omega) h2]
  frame_out
  unfold k0_pay3
  rw [shapeCast_self]
  rfl

/-- The accumulated block before the last step's norm. -/
def before (c : Dev nD) (n : ℕ) (h : n < cfg0.N) : Vec Ideal S512x2048 .f32 :=
  if n % 11 = 10 then
    fun i => outsAt0 m c (n - 1) (Nat.lt_of_le_of_lt (Nat.sub_le _ _) h) i + part m c ⟨n, h⟩ i
  else outsAt0 m c n h

theorem outs_C (c : Dev nD) (t : Fin cfg0.N) (h2 : t.val % 11 = 10) :
    outsAt0 m c t.val t.isLt = k0_pay4 (before m c t.val t.isLt) (iblk m c 5 t) := by
  rw [outsAt0_C m c t (by omega) (by omega) h2]
  frame_out
  unfold before k0_pay3
  rw [if_pos h2, shapeCast_self]
  rfl

theorem before_sum (c : Dev nD) (t : Fin cfg0.N) (h2 : t.val % 11 = 10) (i : S512x2048.Idx) :
    before m c t.val t.isLt i = resid m c ⟨11 * (t.val / 11) + (0 : Fin 11).val, Pipeline.run_point_lt_of_flush (J := 11) t h2 0⟩ i
      + ∑ s : Fin 11, part m c ⟨11 * (t.val / 11) + s.val, Pipeline.run_point_lt_of_flush (J := 11) t h2 s⟩ i := by
  rw [Pipeline.eq_sum_fin_of_reset_step_apply_of_flush (before m c) 11 (fun _ => (0 : EReal))
    (fun t i => (if t.val % 11 = 0 then resid m c t i else 0) + part m c t i)
    (fun t h0 i => by
      unfold before
      rw [if_neg (by omega), if_pos h0, outs_A m c t h0 i, zero_add])
    (fun t h0 i => by
      unfold before
      rw [if_neg h0, zero_add, if_neg (by omega : ¬ (t.val - 1) % 11 = 10)]
      by_cases h : t.val % 11 = 10
      · rw [if_pos h]
      · rw [if_neg h, outs_B m c t h0 h i]) t h2 i, zero_add, Finset.sum_add_distrib]
  congr 1
  rw [Finset.sum_eq_single (0 : Fin 11)]
  · rw [if_pos (by simp)]
  · intro b _ hb
    have : b.val ≠ 0 := fun h => hb (Fin.ext h)
    have := b.isLt
    rw [if_neg (by simp only []; omega)]
  · intro h
    exact absurd (Finset.mem_univ _) h

open Cert.FfnRefIdeal.Read in
theorem ref_apply (x0 : (⟨S32768x2048, .bf16⟩ : BufTy).Contents (Elt Ideal)) (x1 : (⟨S32768x2048, .f32⟩ : BufTy).Contents (Elt Ideal))
    (x2 : (⟨S1x2048x11264, .f32⟩ : BufTy).Contents (Elt Ideal)) (x3 : (⟨S1x5632x2048, .f32⟩ : BufTy).Contents (Elt Ideal))
    (x4 : (⟨S2048, .f32⟩ : BufTy).Contents (Elt Ideal)) (r : Fin 32768) (q : Fin 2048) :
    val_main_v22 (F := Ideal) x0 x1 x2 x3 x4 (ix2 r q)
      = normed (row x0 x1 x2 x3 r) (x4 (ix1 q)) q := by
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_call0_v0, val_main_call0_v1, val_main_call0_v2, val_main_call0_v3, val_main_call0_v4, val_main_call0_v5,
    val_main_call0_cst, val_main_call0_cst_0, normed, row, hid, Ideal.logistic,
    Cert.FfnRefIdeal.dot_S32768x2048_S2048x11264_S32768x11264_1_0_0_1_n_n, Cert.FfnRefIdeal.dot_S32768x5632_S5632x2048_S32768x2048_1_0_0_1_n_n]

theorem at0 : ∀ t : Fin cfg0.N, win0_0.index t = ![t.val / 11, 0] := (by decide +kernel : ∀ t : Fin grid0.N, _)
theorem at1 : ∀ t : Fin cfg0.N, win0_1.index t = ![t.val / 11, 0] := (by decide +kernel : ∀ t : Fin grid0.N, _)
theorem at2 : ∀ t : Fin cfg0.N, win0_2.index t = ![0, t.val % 11] := (by decide +kernel : ∀ t : Fin grid0.N, _)
theorem at3 : ∀ t : Fin cfg0.N, win0_3.index t = ![0, 11 + t.val % 11] := (by decide +kernel : ∀ t : Fin grid0.N, _)
theorem at4 : ∀ t : Fin cfg0.N, win0_4.index t = ![t.val % 11, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val / 11, 0] := (by decide +kernel : ∀ t : Fin grid0.N, _)

/-- The products of one point, in terms of the arguments. -/
theorem part_apply (c : Dev nD) (t : Fin cfg0.N) (r : Fin 512) (q : Fin 2048) (R : Fin 32768) (s : Fin 11)
    (hR : R.val = t.val / 11 * 512 + r.val) (hs : t.val % 11 = s.val) :
    part m c t (ix2 r q) = ∑ l : Fin 512,
      hid (fun k => (m ((c.tc : Thread nD τ).loc main_arg0) : Vec Ideal S32768x2048 .bf16) (ix2 R k))
        (fun k => (m ((c.tc : Thread nD τ).loc main_arg2) : Vec Ideal S1x2048x11264 .f32) (ix3 0 k ⟨s.val * 512 + l.val, by omega⟩))
        (fun k => (m ((c.tc : Thread nD τ).loc main_arg2) : Vec Ideal S1x2048x11264 .f32) (ix3 0 k ⟨5632 + (s.val * 512 + l.val), by omega⟩))
        * (m ((c.tc : Thread nD τ).loc main_arg3) : Vec Ideal S1x5632x2048 .f32) (ix3 0 ⟨s.val * 512 + l.val, by omega⟩ q) := by
  have e0 : ∀ k : Fin 2048, (iblk m c 0 t : Vec Ideal S512x2048 .bf16) (ix2 r k)
      = (m ((c.tc : Thread nD τ).loc main_arg0) : Vec Ideal S32768x2048 .bf16) (ix2 R k) := by
    intro k
    blk_ext! [iblk, V, at0 t, hR]
  have e2 : ∀ (k : Fin 2048) (l : Fin 512), (iblk m c 2 t : Vec Ideal S2048x512 .bf16) (ix2 k l)
      = (m ((c.tc : Thread nD τ).loc main_arg2) : Vec Ideal S1x2048x11264 .f32) (ix3 0 k ⟨s.val * 512 + l.val, by omega⟩) := by
    intro k l
    blk_ext! [iblk, V, at2 t, hs]
  have e3 : ∀ (k : Fin 2048) (l : Fin 512), (iblk m c 3 t : Vec Ideal S2048x512 .bf16) (ix2 k l)
      = (m ((c.tc : Thread nD τ).loc main_arg2) : Vec Ideal S1x2048x11264 .f32) (ix3 0 k ⟨5632 + (s.val * 512 + l.val), by omega⟩) := by
    intro k l
    blk_ext! [iblk, V, at3 t, hs]
  have e4 : ∀ (l : Fin 512) (k : Fin 2048), (iblk m c 4 t : Vec Ideal S512x2048 .bf16) (ix2 l k)
      = (m ((c.tc : Thread nD τ).loc main_arg3) : Vec Ideal S1x5632x2048 .f32) (ix3 0 ⟨s.val * 512 + l.val, by omega⟩ k) := by
    intro l k
    blk_ext! [iblk, V, at4 t, hs]
  unfold part
  refine (pay1_apply _ _ _ _ r q).trans (Finset.sum_congr rfl fun l _ => ?_)
  simp only [e0, e2, e3]
  exact congrArg₂ (HMul.hMul (α := EReal) (β := EReal)) rfl (e4 l q)

/-- The accumulated block before the norm, in terms of the arguments. -/
theorem before_apply (c : Dev nD) (t : Fin cfg0.N) (h2 : t.val % 11 = 10) (r : Fin 512) (q : Fin 2048) (R : Fin 32768)
    (hR : R.val = t.val / 11 * 512 + r.val) :
    before m c t.val t.isLt (ix2 r q)
      = row (m ((c.tc : Thread nD τ).loc main_arg0)) (m ((c.tc : Thread nD τ).loc main_arg1))
          (m ((c.tc : Thread nD τ).loc main_arg2)) (m ((c.tc : Thread nD τ).loc main_arg3)) R q := by
  have hdiv : ∀ s : Fin 11, (11 * (t.val / 11) + s.val) / 11 = t.val / 11 := fun s => by have := s.isLt; omega
  have hmod : ∀ s : Fin 11, (11 * (t.val / 11) + s.val) % 11 = s.val := fun s => by have := s.isLt; omega
  rw [before_sum m c t h2]
  unfold row
  congr 1
  · unfold resid
    blk_ext! [iblk, V, at1 ⟨_, Pipeline.run_point_lt_of_flush (J := 11) t h2 0⟩, hdiv]
  · refine (Finset.sum_congr rfl fun s _ => part_apply m c ⟨_, Pipeline.run_point_lt_of_flush (J := 11) t h2 s⟩ r q R s
      (by simp only [hdiv]; exact hR) (hmod s)).trans ?_
    refine Fin.sum_mul_add_congr fun s k hl => ?_
    rfl

/-- The call's result array. -/
theorem final (c : Dev nD) :
    (dats m 0 c).arrAt 6 cfg0.N = Cert.FfnRefIdeal.Read.val_main_v22 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) := by
  refine (dats m 0 c).arrAt_eq_of_covers 6 _ (by decide +kernel) fun t hf y => ?_
  have h2 := (flush0_6 t).mp hf
  have hN : cfg0.N = 704 := N_0
  have ht := t.isLt
  blk_simp
  rw [after0_6, outs_C m c t h2]
  obtain ⟨r, q, rfl⟩ : ∃ (r : Fin 512) (q : Fin 2048), y = ix2 r q := ⟨y 0, y 1, funext fun a => by fin_cases a <;> rfl⟩
  have hr := r.isLt
  have e : (win0_6.blk t).view.emb (ix2 r q) = ix2 (⟨t.val / 11 * 512 + r.val, by omega⟩ : Fin 32768) q := by
    blk_ext [at6 t]
  rw [e, ref_apply, pay4_apply]
  simp only [before_apply m c t h2 r _ ⟨t.val / 11 * 512 + r.val, by omega⟩ rfl]
  congr 1
  blk_ext! [iblk, V, at5 t]

end Cert.Ffn.Value

end
-- ==== Proof.InRun.lean ====
/-
  The input projection's call: what its body does at a point, for any float values, and its frame.

  The body norms a block of rows at the first of the twelve points that share it, keeps the normed rows in a scratch buffer, and
  projects them on the small weight there; at each of the twelve it projects the kept rows on one block of columns. The small
  result's buffer is stored at the first point, left alone at the other eleven, and written back after the last: what is written
  back is what the first point stored.
-/
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Pipeline.TableIdle
public import Idealize.ShloMosaic.Lib.Pipeline.Value
public import Idealize.ShloMosaic.Lib.Pipeline.ValueKit.Point
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.InProjIdeal.Own

open Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The assertions of the separation logic, at the machine's own resources. -/
abbrev Asrt (F : FTy → Type) [FloatOps F] := sProp (MT nD τ sig Unit (Elt F) ℕ (UR sig nD τ) ℕ)

/-! ## What the body does at a point -/

section Body

variable (c : Dev nD) (i : grid0.Coords)
  (arg2 : Memref sig .tc .vmem S512x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S2048x256 .bf16) (harg5 : arg5.IsWhole)
  (arg6 : Memref sig .tc .vmem S512x1024 .f32) (harg6 : arg6.IsWhole) (arg7 : Memref sig .tc .vmem S512x256 .f32) (harg7 : arg7.IsWhole)
  (arg8 : Memref sig .tc .vmem S512x2048 .bf16) (harg8 : arg8.IsWhole)
  (x : Vec F S512x2048 .f32) (nw : Vec F S1x2048 .f32) (w : Vec F S2048x1024 .bf16) (ws : Vec F S2048x256 .bf16)
  (kept : Vec F S512x2048 .bf16) (small : Vec F S512x256 .f32)

/-- What the body finds: the four inputs at their contents, the large result at anything, and the small result and the scratch as
    given. -/
def holds (o os s : Asrt F) : Asrt F :=
  iprop(owns (c : Thread nD τ) arg2 fullShare x ∗ owns (c : Thread nD τ) arg3 fullShare nw ∗ owns (c : Thread nD τ) arg4 fullShare w
    ∗ owns (c : Thread nD τ) arg5 fullShare ws ∗ o ∗ os ∗ s)

set_option maxHeartbeats 1000000 in
/-- At a row block's first point the body keeps the normed rows and stores both products of them. -/
theorem body_first (hc : k0_cond1 i = 1#1) (E : Set ℕ) (K : PUnit → Asrt F) :
    iprop(holds c arg2 arg3 arg4 arg5 x nw w ws iprop(∃ d, owns (c : Thread nD τ) arg6 fullShare d) iprop(∃ d, owns (c : Thread nD τ) arg7 fullShare d)
          iprop(∃ d, owns (c : Thread nD τ) arg8 fullShare d)
        ∗ (holds c arg2 arg3 arg4 arg5 x nw w ws (owns (c : Thread nD τ) arg6 fullShare (k0_pay3 (k0_pay1 x nw) w))
            (owns (c : Thread nD τ) arg7 fullShare (k0_pay2 (k0_pay1 x nw) ws)) (owns (c : Thread nD τ) arg8 fullShare (k0_pay1 x nw))
          -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel holds owns
  iintro ⟨⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩⟩, Hk⟩
  obtain rfl := harg2.eq_unread hf0; obtain rfl := harg3.eq_unread hf1; obtain rfl := harg4.eq_unread hf2; obtain rfl := harg5.eq_unread hf3
  sl_exec (disch := sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (View.read_writes_full _ _ _ _ _).trans (congrArg₂ k0_pay3 ((View.readCov_full _ _ _ _ _).trans ?_) ((View.readAt_full _ _ _).trans hf2))
    exact congrArg₂ k0_pay1 ((View.readAt_full _ _ _).trans hf0) ((View.readAt_full _ _ _).trans hf1)
  isplitl [H5]
  · iexists _; isplitr
    swap; · iexact H5
    ipureintro
    refine (View.read_writes_full _ _ _ _ _).trans (congrArg₂ k0_pay2 ((View.readCov_full _ _ _ _ _).trans ?_) ((View.readAt_full _ _ _).trans hf3))
    exact congrArg₂ k0_pay1 ((View.readAt_full _ _ _).trans hf0) ((View.readAt_full _ _ _).trans hf1)
  iexists _; isplitr
  swap; · iexact HS
  ipureintro
  exact (View.read_writes_full _ _ _ _ _).trans (congrArg₂ k0_pay1 ((View.readAt_full _ _ _).trans hf0) ((View.readAt_full _ _ _).trans hf1))

set_option maxHeartbeats 1000000 in
/-- At a later point of the row block it stores the product of the rows kept, and leaves the small result and the kept rows alone. -/
theorem body_later (hc : ¬k0_cond1 i = 1#1) (E : Set ℕ) (K : PUnit → Asrt F) :
    iprop(holds c arg2 arg3 arg4 arg5 x nw w ws iprop(∃ d, owns (c : Thread nD τ) arg6 fullShare d) (owns (c : Thread nD τ) arg7 fullShare small)
          (owns (c : Thread nD τ) arg8 fullShare kept)
        ∗ (holds c arg2 arg3 arg4 arg5 x nw w ws (owns (c : Thread nD τ) arg6 fullShare (k0_pay3 kept w))
            (owns (c : Thread nD τ) arg7 fullShare small) (owns (c : Thread nD τ) arg8 fullShare kept)
          -∗ K ⟨⟩))
      ⊢ wp frame (wpE (defs₀ (F := F)) Variants.none c none) E
          (cc0_in_proj i arg2 harg2 arg3 harg3 arg4 harg4 arg5 harg5 arg6 harg6 arg7 harg7 arg8 harg8) K := by
  simp only [cc0_in_proj_eq_skeleton]; unfold cc0_in_proj_skel holds owns
  iintro ⟨⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hfs
  sl_exec (disch := sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    exact (View.read_writes_full _ _ _ _ _).trans (congrArg₂ k0_pay3 ((View.readAt_full _ _ _).trans hfs) ((View.readAt_full _ _ _).trans hf2))
  isplitl [H5]
  · iexists _; isplitr; · ipureintro; exact hf5
    iexact H5
  iexists _; isplitr; · ipureintro; exact hfs
  iexact HS

end Body

/-! ## What the call's region finds -/

/-- The TensorCore's buffers after the host operations before the call. -/
abbrev V (c : Dev nD) (b : Ref sig .tc) : Buf (Elt F) ((c : Thread nD τ).loc b) := StableHlo.after hostOps0 (fun b => m (c, b)) b

set_option maxHeartbeats 800000 in
/-- The program runs its host operations and then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub (by simp only [List.Forall]; repeat' constructor) main_chain

/-- A buffer the host operations do not write is found as launched. -/
theorem V_kept (c : Dev nD) (b : Ref sig .tc)
    (h : (hostOps0 (F := F)).Forall fun op => Proc.devRef .tc b ∉ op.writes) : V m c b = m ((c : Thread nD τ).loc b) :=
  StableHlo.after_of_forall_not_mem (b := Proc.devRef .tc b) _ _ (List.forall_iff_forall_mem.mp h)

/-- No host operation writes one of the program's three arguments. -/
theorem args_unwritten (b : Ref sig .tc) (hb : b = main_arg0 ∨ b = main_arg1 ∨ b = main_arg2) :
    (hostOps0 (F := F)).Forall fun op => Proc.devRef .tc b ∉ op.writes := by
  simp only [hostOps0, List.flatten_cons, List.flatten_nil, List.append_nil, List.cons_append,
    List.nil_append, List.Forall, StableHlo.nullary_writes, StableHlo.unary_writes, StableHlo.binary_writes, StableHlo.reshape_writes,
    StableHlo.nary_writes, Finset.mem_singleton]
  rcases hb with rfl | rfl | rfl <;> repeat' apply And.intro
  all_goals exact StableHlo.devRef_ne_of_ne (by decide)

/-- Window `w`'s block at point `t`, as the region finds its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The points of a row block -/

/-- The first of the twelve points that share `t`'s row block. -/
def start (t : Fin cfg0.N) : Fin cfg0.N := ⟨12 * (t.val / 12), lt_of_le_of_lt (Nat.mul_div_le _ _) t.isLt⟩

theorem start_of_first (t : Fin cfg0.N) (h : t.val % 12 = 0) : start t = t := Fin.ext (by simp only [start]; omega)

theorem start_pred (t : Fin cfg0.N) (h : ¬t.val % 12 = 0) : start ⟨t.val - 1, by omega⟩ = start t := Fin.ext (by simp only [start]; omega)

/-- The body's condition holds at a row block's first point. -/
theorem first_iff : ∀ t : Fin cfg0.N, k0_cond1 (grid0.coords t) = 1#1 ↔ t.val % 12 = 0 :=
  (fun t => by
    have ht : t.val < 768 := Nat.lt_of_lt_of_eq t.isLt N_0
    have e0 : (grid0.coords t 0).val = t.val / 12 % 64 := Pipeline.Grid.coords_val t 0 (by decide) rfl
    have e1 : (grid0.coords t 1).val = t.val / 1 % 12 := Pipeline.Grid.coords_val t 1 (by decide) rfl
    simp only [k0_cond1, e0, e1]
    word_cmp
   : ∀ t : Fin grid0.N, k0_cond1 (grid0.coords t) = 1#1 ↔ t.val % 12 = 0)

/-- The small result's window is idle at the points that are not first in their row block. -/
theorem idle_iff : ∀ t : Fin cfg0.N, cfg0.idle 5 (grid0.coords t) = true ↔ ¬t.val % 12 = 0 := by decide +kernel

/-- Its buffer holds nothing stored since the last write-back exactly before a row block's first point. -/
theorem fresh_eq (t : Fin cfg0.N) : cfg0.fresh 5 t.val = (t.val % 12 == 0) :=
  Pipeline.Cfg.fresh_tab cfg0 5 (fun n => n % 12 == 0) rfl (by decide +kernel) t.val (Nat.le_of_lt t.isLt)

/-! ## The proof data -/

/-- The normed rows of `t`'s row block. -/
def kept (c : Dev nD) (t : Fin cfg0.N) : Vec F S512x2048 .bf16 := k0_pay1 (iblk m c 0 (start t)) (iblk m c 1 (start t))

abbrev scratch : Memref sig .tc .vmem S512x2048 .bf16 := Memref.whole cc0_scratch0

/-- Before point `n`: at the outset the scratch at anything, later at the normed rows of the point before. -/
def inv (c : Dev nD) : (n : ℕ) → n ≤ cfg0.N → Asrt F
  | 0, _ => Pipeline.ΦA spec0 c
  | n + 1, hn => iprop(owns (c : Thread nD τ) scratch fullShare (kept m c ⟨n, hn⟩) ∗ (∃ r, prngReg c r))

theorem region_eq (c : Dev nD) :
    (Pipeline.ΦA spec0 c : Asrt F) = iprop((∃ d, owns (c : Thread nD τ) scratch fullShare d) ∗ (∃ r, prngReg c r)) := by
  unfold Pipeline.ΦA; rw [scopedRest0_eq]; simp only [scratch, owns_whole]; try rfl

theorem inv_pos (c : Dev nD) (n : ℕ) (h : n ≤ cfg0.N) (hz : n ≠ 0) :
    inv m c n h = iprop(owns (c : Thread nD τ) scratch fullShare (kept m c ⟨n - 1, by omega⟩) ∗ (∃ r, prngReg c r)) := by
  cases n with
  | zero => exact absurd rfl hz
  | succ n => rfl

/-- Whatever the position, the scratch is held at something. -/
theorem inv_out (c : Dev nD) (n : ℕ) (h : n ≤ cfg0.N) : inv m c n h ⊢ Pipeline.ΦA spec0 c := by
  cases n with
  | zero => exact Idealize.SL.BI.Entails.refl _
  | succ n =>
    rw [region_eq]; unfold inv
    iintro ⟨HS, Hg⟩
    isplitl [HS]
    · iexists _; iexact HS
    iexact Hg

theorem inv_scratch (c : Dev nD) (n : ℕ) (h : n ≤ cfg0.N) :
    inv m c n h ⊢ iprop((∃ d, owns (c : Thread nD τ) scratch fullShare d) ∗ (∃ r, prngReg c r)) :=
  region_eq (F := F) c ▸ inv_out m c n h

/-- What each buffer holds after each point: an input its block, the results the products of the row block's normed rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (kept m c t) (iblk m c 2 t)
    | ⟨5, _⟩ => k0_pay2 (kept m c t) (iblk m c 3 (start t))
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after4 (c : Dev nD) (t : Fin cfg0.N) : (dats m 0 c).after 4 t = k0_pay3 (kept m c t) (iblk m c 2 t) := by dsimp only [dats]
theorem after5 (c : Dev nD) (t : Fin cfg0.N) : (dats m 0 c).after 5 t = k0_pay2 (kept m c t) (iblk m c 3 (start t)) := by dsimp only [dats]

/-- Each input's buffer holds its block at every point. -/
theorem before0 (c : Dev nD) (t : Fin cfg0.N) (d) : (dats m 0 c).before 0 t d = iblk m c 0 t :=
  (dats m 0 c).before_in_eq_fetched 0 rfl (fun _ => rfl) (fun _ _ _ => rfl) (fun _ => rfl) t d
theorem before1 (c : Dev nD) (t : Fin cfg0.N) (d) : (dats m 0 c).before 1 t d = iblk m c 1 t :=
  (dats m 0 c).before_in_eq_fetched 1 rfl (fun _ => rfl) (fun _ _ _ => rfl) (fun _ => rfl) t d
theorem before2 (c : Dev nD) (t : Fin cfg0.N) (d) : (dats m 0 c).before 2 t d = iblk m c 2 t :=
  (dats m 0 c).before_in_eq_fetched 2 rfl (fun _ => rfl) (fun _ _ _ => rfl) (fun _ => rfl) t d
theorem before3 (c : Dev nD) (t : Fin cfg0.N) (d) : (dats m 0 c).before 3 t d = iblk m c 3 t :=
  (dats m 0 c).before_in_eq_fetched 3 rfl (fun _ => rfl) (fun _ _ _ => rfl) (fun _ => rfl) t d

theorem kept_pred (c : Dev nD) (t : Fin cfg0.N) (h : ¬t.val % 12 = 0) : kept m c ⟨t.val - 1, by omega⟩ = kept m c t := by
  unfold kept; rw [start_pred t h]

/-- At a point that is not first in its row block the small result's buffer holds what the first point stored. -/
theorem before5 (c : Dev nD) (t : Fin cfg0.N) (h : ¬t.val % 12 = 0) (d) : (dats m 0 c).before 5 t d = (dats m 0 c).after 5 t := by
  have carry : ∀ s : Fin cfg0.N, ¬s.val % 12 = 0 → (dats m 0 c).after 5 s = (dats m 0 c).after 5 ⟨s.val - 1, by omega⟩ := fun s hs => by
    rw [after5, after5, kept_pred m c s hs, start_pred s hs]
  rw [Dat.before_out_traj _ 5 rfl (fun _ _ => rfl) (fun s _ hi _ => carry s ((idle_iff s).1 hi)) t.val t rfl d,
    if_neg (by rw [fresh_eq t]; simpa using h)]
  exact (carry t h).symm

/-- There the buffer left as it was is what the pipeline asks for, whether it is written back after the point or not. -/
theorem leaves5 (c : Dev nD) (t : Fin cfg0.N) (h : ¬t.val % 12 = 0) :
    owns (c : Thread nD τ) (win0_5.stage (cfg0.slots t 5)) fullShare ((dats m 0 c).after 5 t) ⊢ ((dats m 0 c).leavesExact 5 t : Asrt F) := by
  have hi := (idle_iff t).2 h
  cases hf : (cfg0.win 5).flush t with
  | true => unfold Dat.leavesExact; rw [hi, hf]
  | false =>
    rw [Dat.leavesExact_idle _ 5 t hi hf]
    iintro H
    iexists ((dats m 0 c).after 5 t)
    rw [before5 m c t h]
    iexact H

/-! ## The body at every point, and the run -/

set_option maxHeartbeats 3200000 in
/-- The body at any point, from what the pipeline hands it to what the pipeline asks for. -/
theorem sound_body (c : Dev nD) (t : Fin cfg0.N) :
    iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d)))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t ∗ (dats m 0 c).leavesExact 1 t ∗ (dats m 0 c).leavesExact 2 t
        ∗ (dats m 0 c).leavesExact 3 t ∗ (dats m 0 c).leavesExact 4 t ∗ (dats m 0 c).leavesExact 5 t)) := by
  unfold bodyAt0
  simp only [before0, before1, before2, before3]
  rw [show (dats m 0 c).owesAt () t.succ = (dats m 0 c).owesAt () t.castSucc from rfl,
    show (dats m 0 c).Φ t.succ = iprop(owns (c : Thread nD τ) scratch fullShare (kept m c t) ∗ (∃ r, prngReg c r)) from rfl,
    show (dats m 0 c).Φ t.castSucc = inv m c t.val (Nat.le_of_lt t.isLt) from rfl,
    show (dats m 0 c).leavesExact 0 t = owns (c : Thread nD τ) (win0_0.stage (cfg0.slots t 0)) fullShare (iblk m c 0 t) from rfl,
    show (dats m 0 c).leavesExact 1 t = owns (c : Thread nD τ) (win0_1.stage (cfg0.slots t 1)) fullShare (iblk m c 1 t) from rfl,
    show (dats m 0 c).leavesExact 2 t = owns (c : Thread nD τ) (win0_2.stage (cfg0.slots t 2)) fullShare (iblk m c 2 t) from rfl,
    show (dats m 0 c).leavesExact 3 t = owns (c : Thread nD τ) (win0_3.stage (cfg0.slots t 3)) fullShare (iblk m c 3 t) from rfl,
    show (dats m 0 c).leavesExact 4 t = owns (c : Thread nD τ) (win0_4.stage (cfg0.slots t 4)) fullShare (k0_pay3 (kept m c t) (iblk m c 2 t)) from rfl]
  by_cases h : t.val % 12 = 0
  · have hs := start_of_first t h
    have hk : k0_pay1 (iblk m c 0 t) (iblk m c 1 t) = kept m c t := by unfold kept; rw [hs]
    have hl : (dats m 0 c).leavesExact 5 t
        = owns (c : Thread nD τ) (win0_5.stage (cfg0.slots t 5)) fullShare (k0_pay2 (kept m c t) (iblk m c 3 t)) := by
      unfold Dat.leavesExact
      rw [show cfg0.idle 5 (cfg0.grid.coords t) = false from Bool.eq_false_iff.2 fun hi => (idle_iff t).1 hi h, after5, hs]
    rw [hl]
    iintro ⟨HI, Ho, ⟨%d0, H0⟩, ⟨%d1, H1⟩, ⟨%d2, H2⟩, ⟨%d3, H3⟩, ⟨%d4, H4⟩, ⟨%d5, H5⟩⟩
    ihave HI := (inv_scratch m c t.val (Nat.le_of_lt t.isLt)) $$ HI
    icases HI with ⟨HS, Hg⟩
    iapply body_first c (grid0.coords t) _ _ _ _ _ _ _ _ _ _ _ _ _ _ (iblk m c 0 t) (iblk m c 1 t) (iblk m c 2 t) (iblk m c 3 t) ((first_iff t).2 h)
    unfold holds
    rw [hk]
    isplitl [H0 H1 H2 H3 H4 H5 HS]
    · isplitl [H0]; · iexact H0
      isplitl [H1]; · iexact H1
      isplitl [H2]; · iexact H2
      isplitl [H3]; · iexact H3
      isplitl [H4]; · iexists _; iexact H4
      isplitl [H5]; · iexists _; iexact H5
      iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [inv_pos m c t.val _ (fun hz => h (by rw [hz])), kept_pred m c t h]
    simp only [before5 m c t h]
    iintro ⟨⟨HS, Hg⟩, Ho, ⟨%d0, H0⟩, ⟨%d1, H1⟩, ⟨%d2, H2⟩, ⟨%d3, H3⟩, ⟨%d4, H4⟩, ⟨%d5, H5⟩⟩
    iapply body_later c (grid0.coords t) _ _ _ _ _ _ _ _ _ _ _ _ _ _ (iblk m c 0 t) (iblk m c 1 t) (iblk m c 2 t) (iblk m c 3 t)
      (kept m c t) ((dats m 0 c).after 5 t) (fun hc => h ((first_iff t).1 hc))
    unfold holds
    isplitl [H0 H1 H2 H3 H4 H5 HS]
    · isplitl [H0]; · iexact H0
      isplitl [H1]; · iexact H1
      isplitl [H2]; · iexact H2
      isplitl [H3]; · iexact H3
      isplitl [H4]; · iexists _; iexact H4
      isplitl [H5]; · iexact H5
      iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply leaves5 m c t h
    iexact H5

/-- So the body meets the pipeline's obligation at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

-- the run theorem's arguments are found through plain definitions in a type still open
set_option backward.isDefEq.respectTransparency.types false in
/-- Every execution ends, with the results at what the points wrote back, and with every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := fun c => inv_out m c _ (Nat.le_refl _))

/-- The run with both results named and the arguments unchanged. -/
theorem run_results : θ_run defs (onTc (τ := τ) (main (F := F))) ⟨m, fun _ => 0, ρ⟩ (fun r => (∀ c : Dev nD,
      (r.2.mem ((c.tc : Thread nD τ).loc main_v13_0) = (dats m 0 c).arrAt 4 cfg0.N
        ∧ r.2.mem ((c.tc : Thread nD τ).loc main_v13_1) = (dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨⟨(h.1 c).1 4, (h.1 c).1 5⟩,
      ((h.1 c).2 main_arg0 (Pipeline.mem_restRefs_of main_arg0 (by decide) (by decide))).trans (V_kept m c _ (args_unwritten _ (.inl rfl))),
      ((h.1 c).2 main_arg1 (Pipeline.mem_restRefs_of main_arg1 (by decide) (by decide))).trans (V_kept m c _ (args_unwritten _ (.inr (.inl rfl)))),
      ((h.1 c).2 main_arg2 (Pipeline.mem_restRefs_of main_arg2 (by decide) (by decide))).trans (V_kept m c _ (args_unwritten _ (.inr (.inr rfl))))⟩,
    h.2⟩) (run m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_results m ρ)

end Cert.InProjIdeal.Own
end
-- ==== Proof.InKernel.lean ====
/-
  The input projection's program as the kernel runs it prints the same text as the one its values are read from, so the run of one
  is the run of the other.
-/
module

public import proofs.«01_k».proof.Proof.InRun
public import proofs.«01_k».proof.Proof.Gen.InProj.Launch

@[expose] public section

set_option maxRecDepth 16384

noncomputable section

namespace Cert.InProj.Own

open Cert.InProj.Gen
open Idealize.ShloMosaic Idealize.ShloMosaic.TcCoe Idealize.SL Idealize.SL.Sem

variable {F : FTy → Type} [FloatOps F]
variable (m : (ℓ : Loc nD τ sig) → Buf (Elt F) ℓ) (ρ : Dev nD → PrngReg)

/-- Both programs call the same body. -/
theorem bodies_eq : Cert.InProj.defs₀ (F := F) = Cert.InProjIdeal.defs₀ (F := F) := by
  unfold Cert.InProj.defs₀ Cert.InProjIdeal.defs₀
  refine congrArg (Defs.onTc (τ := τ) (sig := sig) (Λ := Λ₀)) (funext fun l => funext fun a => ?_)
  match l, a with
  | 0, (t, s) => rfl

theorem defs_eq : Cert.InProj.defs (F := F) = Cert.InProjIdeal.defs (F := F) := by
  unfold Cert.InProj.defs Cert.InProjIdeal.defs
  exact congrArg (Pipeline.defs (Cert.InProj.pcfgs (F := F))) bodies_eq

/-- The frame of the program as the kernel runs it: the same program, so the same run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [show defs (F := F) = Cert.InProjIdeal.defs (F := F) from defs_eq]
  exact Cert.InProjIdeal.Own.frame (F := F) m ρ

end Cert.InProj.Own
end
-- ==== Proof.InValue.lean ====
/-
  The input projection: what its points leave in the two results is the product of the normed rows and the weight, its columns
  taken apart into the large result and, with columns of zeros between, the small one.
-/
module

public import proofs.«01_k».proof.Proof.InRun
public import proofs.«01_k».proof.Proof.Gen.InProjRefIdeal.Read
public import Idealize.ShloMosaic.Lib.Pipeline.ValueKit.Point
public import Idealize.ShloMosaic.Lib.Pipeline.ReadBack

@[expose] public section

set_option maxRecDepth 16384
set_option maxHeartbeats 1000000

noncomputable section

open Idealize.ShloMosaic

namespace Cert.InProj.Value

open Cert.InProjIdeal Cert.InProjIdeal.Gen Cert.InProjIdeal.Own

/-- The norm of a row. -/
def normed (x : Fin 2048 → EReal) (w : EReal) (q : Fin 2048) : EReal :=
  x q * Ideal.rsqrt (Ideal.div (∑ c, x c * x c) (Ideal.ofBits .f32 0x45000000#32) + Ideal.ofBits .f32 0x358637BD#32) * w

theorem pay1_apply (x : Vec Ideal S512x2048 .f32) (w : Vec Ideal S1x2048 .f32) (r : Fin 512) (q : Fin 2048) :
    k0_pay1 x w (ix2 r q) = normed (fun c => x (ix2 r c)) (w (ix2 0 q)) q := by
  pointwise [k0_pay1, normed]

theorem pay2_apply (x : Vec Ideal S512x2048 .bf16) (w : Vec Ideal S2048x256 .bf16) (r : Fin 512) (q : Fin 256) :
    k0_pay2 x w (ix2 r q) = ∑ k : Fin 2048, x (ix2 r k) * w (ix2 k q) := by
  pointwise [k0_pay2, dot_S512x2048_S2048x256_S512x256_1_0_0_1_n_n]

theorem pay3_apply (x : Vec Ideal S512x2048 .bf16) (w : Vec Ideal S2048x1024 .bf16) (r : Fin 512) (q : Fin 1024) :
    k0_pay3 x w (ix2 r q) = ∑ k : Fin 2048, x (ix2 r k) * w (ix2 k q) := by
  pointwise [k0_pay3, dot_S512x2048_S2048x1024_S512x1024_1_0_0_1_n_n]

/-- The normed row's product with one column. -/
def proj (x0 : Vec Ideal S4x8192x2048 .f32) (x1 : Vec Ideal S1x2048 .f32) (r : Fin 32768) (w : Fin 2048 → EReal) : EReal :=
  ∑ k : Fin 2048, normed (fun c => x0 (ix3 ⟨r.val / 8192, by omega⟩ ⟨r.val % 8192, by omega⟩ c)) (x1 (ix2 0 k)) k * w k

/-- The weight's column that the large result's column `q` is made with. -/
def wide (x2 : Vec Ideal S1x2048x12304 .f32) (q : Fin 12288) (k : Fin 2048) : EReal :=
  if h : q.val < 8192 then x2 (ix3 0 k ⟨q.val, by omega⟩) else x2 (ix3 0 k ⟨8208 + (q.val - 8192), by omega⟩)

/-- The weight's column that the small result's column `q` is made with: two runs of eight columns, zeros after each. -/
def narrow (x2 : Vec Ideal S1x2048x12304 .f32) (q : Fin 256) (k : Fin 2048) : EReal :=
  if h : q.val < 8 then x2 (ix3 0 k ⟨8192 + q.val, by omega⟩)
  else if h' : q.val - 8 < 120 then 0
  else if h'' : q.val - 8 - 120 < 8 then x2 (ix3 0 k ⟨8200 + (q.val - 8 - 120), by omega⟩)
  else 0

theorem proj_zero (x0 : Vec Ideal S4x8192x2048 .f32) (x1 : Vec Ideal S1x2048 .f32) (r : Fin 32768) : proj x0 x1 r (fun _ => 0) = 0 := by
  unfold proj
  exact Finset.sum_eq_zero fun k _ => mul_zero _

section Reference

open Cert.InProjRefIdeal.Read

variable (x0 : (⟨S4x8192x2048, .f32⟩ : BufTy).Contents (Elt Ideal)) (x1 : (⟨S1x2048, .f32⟩ : BufTy).Contents (Elt Ideal))
  (x2 : (⟨S1x2048x12304, .f32⟩ : BufTy).Contents (Elt Ideal))

/-- The reference's product, entry by entry. -/
theorem ref_proj (r : Fin 32768) (j : Fin 12304) :
    val_main_v16 (F := Ideal) x0 x1 x2 (ix2 r j) = proj x0 x1 r (fun k => x2 (ix3 0 k j)) := by
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, proj, normed, Cert.InProjRefIdeal.dot_S32768x2048_S2048x12304_S32768x12304_1_0_0_1_n_n]

theorem ref_wide (r : Fin 32768) (q : Fin 12288) :
    val_main_v22 (F := Ideal) x0 x1 x2 (ix2 r q) = proj x0 x1 r (wide x2 q) := by
  have h := ref_proj x0 x1 x2 r
  unfold val_main_v22 val_main_v20 val_main_v21
  generalize val_main_v16 (F := Ideal) x0 x1 x2 = y at h ⊢
  pointwise []
  split
  · next hq => rw [h]; exact congrArg _ (funext fun k => by simp only [wide, dif_pos hq])
  · next hq => rw [h]; exact congrArg _ (funext fun k => by simp only [wide, dif_neg hq])

theorem ref_narrow (r : Fin 32768) (q : Fin 256) :
    val_main_v23 (F := Ideal) x0 x1 x2 (ix2 r q) = proj x0 x1 r (narrow x2 q) := by
  have h := ref_proj x0 x1 x2 r
  unfold val_main_v23 val_main_v17 val_main_v18
  generalize val_main_v16 (F := Ideal) x0 x1 x2 = y at h ⊢
  pointwise [val_main_v19, val_main_cst_2]
  split
  · next h1 => rw [h]; exact congrArg _ (funext fun k => by simp only [narrow, dif_pos h1])
  · next h1 =>
    split
    · next h2 => rw [← proj_zero x0 x1 r]; exact congrArg _ (funext fun k => by simp only [narrow, dif_neg h1, dif_pos h2])
    · next h2 =>
      split
      · next h3 => rw [h]; exact congrArg _ (funext fun k => by simp only [narrow, dif_neg h1, dif_neg h2, dif_pos h3])
      · next h3 => rw [← proj_zero x0 x1 r]; exact congrArg _ (funext fun k => by simp only [narrow, dif_neg h1, dif_neg h2, dif_neg h3])

end Reference

section Blocks

theorem at0 : ∀ t : Fin cfg0.N, win0_0.index t = ![t.val / 12, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, t.val % 12] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![t.val / 12, t.val % 12] := (by decide +kernel : ∀ t : Fin grid0.N, _)
theorem at5 : ∀ t : Fin cfg0.N, win0_5.index t = ![t.val / 12, 0] := (by decide +kernel : ∀ t : Fin grid0.N, _)

variable (m : (ℓ : Loc nD τ sig) → Buf (Elt Ideal) ℓ) (c : Dev nD)

abbrev arg0 : Vec Ideal S4x8192x2048 .f32 := m ((c.tc : Thread nD τ).loc main_arg0)
abbrev arg1 : Vec Ideal S1x2048 .f32 := m ((c.tc : Thread nD τ).loc main_arg1)
abbrev arg2 : Vec Ideal S1x2048x12304 .f32 := m ((c.tc : Thread nD τ).loc main_arg2)

theorem entry0 (t : Fin cfg0.N) (r : Fin 512) (k : Fin 2048) (R : Fin 32768) (hR : R.val = t.val / 12 * 512 + r.val) :
    (iblk m c 0 t : Vec Ideal S512x2048 .f32) (ix2 r k) = arg0 m c (ix3 ⟨R.val / 8192, by omega⟩ ⟨R.val % 8192, by omega⟩ k) := by
  blk_ext! [iblk, V, at0 t, hR]

theorem entry1 (t : Fin cfg0.N) (k : Fin 2048) :
    (iblk m c 1 t : Vec Ideal S1x2048 .f32) (ix2 0 k) = arg1 m c (ix2 0 k) := by
  blk_ext! [iblk, V, at1 t]

/-! What the host operations leave: the weight's columns put together for the two products. -/

theorem array4 (k : Fin 2048) (Q : Fin 12288) : (V m c main_v4 : Vec Ideal S2048x12288 .bf16) (ix2 k Q) = wide (arg2 m c) Q k := by
  blk_ext! [V, wide]

/-- One entry of a block of the large weight. -/
theorem entry2 (t : Fin cfg0.N) (k : Fin 2048) (q : Fin 1024) (Q : Fin 12288) (hQ : Q.val = t.val % 12 * 1024 + q.val) :
    (iblk m c 2 t : Vec Ideal S2048x1024 .bf16) (ix2 k q) = wide (arg2 m c) Q k := by
  refine Eq.trans ?_ (array4 m c k Q)
  unfold iblk
  change (_ : Vec Ideal S2048x1024 .bf16) (ix2 k q) = _
  generalize V m c main_v4 = X
  blk_ext [at2 t, hQ]

theorem block3 (t : Fin cfg0.N) (k : Fin 2048) (q : Fin 256) :
    (iblk m c 3 t : Vec Ideal S2048x256 .bf16) (ix2 k q) = (V m c main_v9 : Vec Ideal S2048x256 .bf16) (ix2 k q) := by
  blk_ext [iblk, at3 t]

theorem array9 (k : Fin 2048) (q : Fin 256) : (V m c main_v9 : Vec Ideal S2048x256 .bf16) (ix2 k q) = (V m c main_v8 : Vec Ideal S2048x256 .f32) (ix2 k q) := by
  rfl

theorem array8 : (V m c main_v8 : Vec Ideal S2048x256 .f32) = concatenate S2048x256 1 [⟨S2048x8, (V m c main_v6 : Vec Ideal S2048x8 .f32)⟩, ⟨S2048x120, (V m c main_v5 : Vec Ideal S2048x120 .f32)⟩, ⟨S2048x8, (V m c main_v7 : Vec Ideal S2048x8 .f32)⟩, ⟨S2048x120, (V m c main_v5 : Vec Ideal S2048x120 .f32)⟩]
    concatenates_S2048x8_S2048x120_S2048x8_S2048x120_S2048x256_d1 := by
  rfl

theorem array0 (k : Fin 2048) (j : Fin 12304) : (V m c main_v0 : Vec Ideal S2048x12304 .f32) (ix2 k j) = arg2 m c (ix3 0 k j) := by
  have e : (V m c main_v0 : Vec Ideal S2048x12304 .f32) = shapeCast S2048x12304 (arg2 m c) shapeCasts_S1x2048x12304_S2048x12304 := rfl
  rw [e]
  pointwise []

theorem array6 (k : Fin 2048) (q : Fin 8) : (V m c main_v6 : Vec Ideal S2048x8 .f32) (ix2 k q) = arg2 m c (ix3 0 k ⟨8192 + q.val, by omega⟩) := by
  have e : (V m c main_v6 : Vec Ideal S2048x8 .f32) = extractStridedSlice S2048x8 ![0, 8192] (V m c main_v0 : Vec Ideal S2048x12304 .f32) slices_S2048x12304_S2048x8_0_8192 := rfl
  rw [e, ← array0]
  generalize (V m c main_v0 : Vec Ideal S2048x12304 .f32) = X
  pointwise []

theorem array7 (k : Fin 2048) (q : Fin 8) : (V m c main_v7 : Vec Ideal S2048x8 .f32) (ix2 k q) = arg2 m c (ix3 0 k ⟨8200 + q.val, by omega⟩) := by
  have e : (V m c main_v7 : Vec Ideal S2048x8 .f32) = extractStridedSlice S2048x8 ![0, 8200] (V m c main_v0 : Vec Ideal S2048x12304 .f32) slices_S2048x12304_S2048x8_0_8200 := rfl
  rw [e, ← array0]
  generalize (V m c main_v0 : Vec Ideal S2048x12304 .f32) = X
  pointwise []

theorem array5 (k : Fin 2048) (q : Fin 120) : (V m c main_v5 : Vec Ideal S2048x120 .f32) (ix2 k q) = (0 : EReal) := by
  have e : (V m c main_v5 : Vec Ideal S2048x120 .f32) = broadcastInDim S2048x120 ![] bcast_S_S2048x120 (constant (F := Ideal) S_ .f32 0x00000000#32) := rfl
  rw [e]
  pointwise []

/-- One entry of the small weight. -/
theorem entry3 (t : Fin cfg0.N) (k : Fin 2048) (q : Fin 256) :
    (iblk m c 3 t : Vec Ideal S2048x256 .bf16) (ix2 k q) = narrow (arg2 m c) q k := by
  rw [block3, array9, array8]
  have h5 := array5 m c k
  have h6 := array6 m c k
  have h7 := array7 m c k
  unfold narrow
  generalize (V m c main_v5 : Vec Ideal S2048x120 .f32) = X5 at h5 ⊢
  generalize (V m c main_v6 : Vec Ideal S2048x8 .f32) = X6 at h6 ⊢
  generalize (V m c main_v7 : Vec Ideal S2048x8 .f32) = X7 at h7 ⊢
  pointwise [h5, h6, h7]

theorem start_row (t : Fin cfg0.N) : (start t).val / 12 = t.val / 12 := by
  show 12 * (t.val / 12) / 12 = _
  omega

/-- The kept rows are the normed rows of the point's own row block. -/
theorem kept_apply (t : Fin cfg0.N) (r : Fin 512) (k : Fin 2048) (R : Fin 32768) (hR : R.val = t.val / 12 * 512 + r.val) :
    (kept m c t : Vec Ideal S512x2048 .bf16) (ix2 r k)
      = normed (fun l => arg0 m c (ix3 ⟨R.val / 8192, by omega⟩ ⟨R.val % 8192, by omega⟩ l)) (arg1 m c (ix2 0 k)) k := by
  refine (pay1_apply _ _ r k).trans (congrArg₂ (fun f w => normed f w k) (funext fun l => ?_) (entry1 m c _ k))
  exact entry0 m c (start t) r l R (by rw [start_row, hR])

/-- The large result's array. -/
theorem final4 : (dats m 0 c).arrAt 4 cfg0.N = Cert.InProjRefIdeal.Read.val_main_v22 (F := Ideal) (arg0 m c) (arg1 m c) (arg2 m c) := by
  refine (dats m 0 c).arrAt_eq_of_covers 4 _ (by decide +kernel) fun t hf y => ?_
  blk_simp
  rw [after4]
  obtain ⟨r, q, rfl⟩ : ∃ (r : Fin 512) (q : Fin 1024), y = ix2 r q := ⟨y 0, y 1, funext fun a => by fin_cases a <;> rfl⟩
  have ht : t.val < 768 := t.isLt
  refine (pay3_apply _ _ r q).trans ?_
  refine Eq.trans ?_ ((ref_wide _ _ _ ⟨t.val / 12 * 512 + r.val, by omega⟩ ⟨t.val % 12 * 1024 + q.val, by omega⟩).symm.trans (congrArg _ ?_))
  · exact Finset.sum_congr rfl fun k _ => congrArg₂ (HMul.hMul (α := EReal) (β := EReal)) (kept_apply m c t r k _ rfl) (entry2 m c t k q _ rfl)
  · blk_ext [at4 t]

/-- The small result's array. -/
theorem final5 : (dats m 0 c).arrAt 5 cfg0.N = Cert.InProjRefIdeal.Read.val_main_v23 (F := Ideal) (arg0 m c) (arg1 m c) (arg2 m c) := by
  refine (dats m 0 c).arrAt_eq_of_covers 5 _ (by decide +kernel) fun t hf y => ?_
  blk_simp
  rw [after5]
  obtain ⟨r, q, rfl⟩ : ∃ (r : Fin 512) (q : Fin 256), y = ix2 r q := ⟨y 0, y 1, funext fun a => by fin_cases a <;> rfl⟩
  have ht : t.val < 768 := t.isLt
  refine (pay2_apply _ _ r q).trans ?_
  refine Eq.trans ?_ ((ref_narrow _ _ _ ⟨t.val / 12 * 512 + r.val, by omega⟩ q).symm.trans (congrArg _ ?_))
  · exact Finset.sum_congr rfl fun k _ => congrArg₂ (HMul.hMul (α := EReal) (β := EReal)) (kept_apply m c t r k _ rfl) (entry3 m c (start t) k q)
  · blk_ext [at5 t]

end Blocks

end Cert.InProj.Value

end
-- ==== Proof.Merge.lean ====
/-
  The merging call: its two results are the residual plus the gated sum's product, and that sum's norm.
-/
module

public import proofs.«01_k».proof.Proof.Gen.MergeIdeal.Value
public import proofs.«01_k».proof.Proof.Gen.MergeRefIdeal.Read
public import Idealize.ShloMosaic.Lib.Pipeline.ValueKit.Point
public import Idealize.ShloMosaic.Lib.Pipeline.ReadBack

@[expose] public section

set_option maxRecDepth 16384
set_option maxHeartbeats 1000000

noncomputable section

open Idealize.ShloMosaic

namespace Cert.Merge.Value

open Cert.MergeIdeal Cert.MergeIdeal.Gen Cert.MergeIdeal.Value

/-- The gated sum of the two branches at one column. -/
def mix (a b : Fin 1024 → EReal) (wa wb : Fin 1024 → EReal) (ga gb : EReal) : EReal :=
  Ideal.logistic ga * (∑ k, a k * wa k) + Ideal.logistic gb * (∑ k, b k * wb k)

/-- The norm of a row. -/
def normed (x : Fin 2048 → EReal) (w : EReal) (q : Fin 2048) : EReal :=
  x q * Ideal.rsqrt (Ideal.div (∑ c, x c * x c) (Ideal.ofBits .f32 0x45000000#32) + Ideal.ofBits .f32 0x358637BD#32) * w

theorem pay2_apply (v0 : Vec Ideal S256x1024 .bf16) (v2 : Vec Ideal S1024x2048 .bf16) (v5 : Vec Ideal S256x1024 .bf16)
    (v7 : Vec Ideal S1024x2048 .bf16) (v10 v13 v17 : Vec Ideal S256x2048 .f32) (v20 : Vec Ideal S2048x2048 .bf16)
    (r : Fin 256) (q : Fin 2048) :
    k0_pay2 v0 v2 v5 v7 v10 v13 v17 v20 (ix2 r q)
      = v17 (ix2 r q) + ∑ l : Fin 2048, mix (fun k => v0 (ix2 r k)) (fun k => v5 (ix2 r k)) (fun k => v2 (ix2 k l))
          (fun k => v7 (ix2 k l)) (v10 (ix2 r l)) (v13 (ix2 r l)) * v20 (ix2 l q) := by
  pointwise [k0_pay2, mix, dot_S256x1024_S1024x2048_S256x2048_1_0_0_1_n_n, dot_S256x2048_S2048x2048_S256x2048_1_0_0_1_n_n]

theorem pay1_apply (v0 : Vec Ideal S256x1024 .bf16) (v2 : Vec Ideal S1024x2048 .bf16) (v5 : Vec Ideal S256x1024 .bf16)
    (v7 : Vec Ideal S1024x2048 .bf16) (v10 v13 v17 : Vec Ideal S256x2048 .f32) (v20 : Vec Ideal S2048x2048 .bf16)
    (w : Vec Ideal S1x2048 .f32) (r : Fin 256) (q : Fin 2048) :
    k0_pay1 (k0_pay2 v0 v2 v5 v7 v10 v13 v17 v20) (k0_pay3 w) (k0_pay4 v0 v2 v5 v7 v10 v13 v17 v20)
        (Scalar.ofBits (F := Ideal) .f32 0x358637BD#32) (ix2 r q)
      = normed (fun c => k0_pay2 v0 v2 v5 v7 v10 v13 v17 v20 (ix2 r c)) (w (ix2 0 q)) q := by
  unfold k0_pay4
  generalize k0_pay2 v0 v2 v5 v7 v10 v13 v17 v20 = y
  pointwise [k0_pay1, k0_pay3, normed]

/-- The residual plus the gated sum's product, at a row and a column. -/
def row (x0 x1 : Vec Ideal S4x8192x1024 .bf16) (x2 : Vec Ideal S32768x12288 .f32) (x3 : Vec Ideal S4x8192x2048 .f32)
    (x4 x5 : Vec Ideal S1x1024x2048 .f32) (x6 : Vec Ideal S1x2048x2048 .f32) (r : Fin 32768) (c : Fin 2048) : EReal :=
  x3 (ix3 ⟨r.val / 8192, by omega⟩ ⟨r.val % 8192, by omega⟩ c) + ∑ l : Fin 2048,
    mix (fun k => x0 (ix3 ⟨r.val / 8192, by omega⟩ ⟨r.val % 8192, by omega⟩ k))
      (fun k => x1 (ix3 ⟨r.val / 8192, by omega⟩ ⟨r.val % 8192, by omega⟩ k))
      (fun k => x4 (ix3 0 k l)) (fun k => x5 (ix3 0 k l)) (x2 (ix2 r ⟨8192 + l.val, by omega⟩)) (x2 (ix2 r ⟨10240 + l.val, by omega⟩))
    * x6 (ix3 0 l c)

open Cert.MergeRefIdeal.Read in
theorem ref_sum (x0 x1 : (⟨S4x8192x1024, .bf16⟩ : BufTy).Contents (Elt Ideal)) (x2 : (⟨S32768x12288, .f32⟩ : BufTy).Contents (Elt Ideal))
    (x3 : (⟨S4x8192x2048, .f32⟩ : BufTy).Contents (Elt Ideal)) (x4 x5 : (⟨S1x1024x2048, .f32⟩ : BufTy).Contents (Elt Ideal))
    (x6 : (⟨S1x2048x2048, .f32⟩ : BufTy).Contents (Elt Ideal)) (r : Fin 32768) (q : Fin 2048) :
    val_main_v28 (F := Ideal) x0 x1 x2 x3 x4 x5 x6 (ix2 r q) = row x0 x1 x2 x3 x4 x5 x6 r q := by
  pointwise [val_main_v28, val_main_v27, val_main_v26, val_main_v25, val_main_v24, val_main_v23, val_main_v22, val_main_v21,
    val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3,
    val_main_v2, val_main_v1, val_main_v0, val_main_cst, val_main_cst_0, val_main_cst_1, val_main_cst_2, row, mix, Ideal.logistic,
    Cert.MergeRefIdeal.dot_S32768x1024_S1024x2048_S32768x2048_1_0_0_1_n_n, Cert.MergeRefIdeal.dot_S32768x2048_S2048x2048_S32768x2048_1_0_0_1_n_n]

open Cert.MergeRefIdeal.Read in
theorem ref_norm (x0 x1 : (⟨S4x8192x1024, .bf16⟩ : BufTy).Contents (Elt Ideal)) (x2 : (⟨S32768x12288, .f32⟩ : BufTy).Contents (Elt Ideal))
    (x3 : (⟨S4x8192x2048, .f32⟩ : BufTy).Contents (Elt Ideal)) (x4 x5 : (⟨S1x1024x2048, .f32⟩ : BufTy).Contents (Elt Ideal))
    (x6 : (⟨S1x2048x2048, .f32⟩ : BufTy).Contents (Elt Ideal)) (x7 : (⟨S1x2048, .f32⟩ : BufTy).Contents (Elt Ideal))
    (r : Fin 32768) (q : Fin 2048) :
    val_main_v43 (F := Ideal) x0 x1 x2 x3 x4 x5 x6 x7 (ix2 r q) = normed (row x0 x1 x2 x3 x4 x5 x6 r) (x7 (ix2 0 q)) q := by
  have h : ∀ k, val_main_v28 (F := Ideal) x0 x1 x2 x3 x4 x5 x6 (ix2 r k) = row x0 x1 x2 x3 x4 x5 x6 r k := fun k =>
    ref_sum x0 x1 x2 x3 x4 x5 x6 r k
  unfold val_main_v43 val_main_v42 val_main_v39 val_main_v38 val_main_v37 val_main_v36 val_main_v34 val_main_v32 val_main_v31 val_main_v30
  generalize val_main_v28 (F := Ideal) x0 x1 x2 x3 x4 x5 x6 = y at h ⊢
  pointwise [val_main_v41, val_main_v40, val_main_v35, val_main_v33, val_main_v29, val_main_cst_3, val_main_cst_4, val_main_cst_5, normed]
  simp only [h]

variable (m : (ℓ : Loc nD τ sig) → Buf (Elt Ideal) ℓ)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 2] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![t.val, 0] := (by decide +kernel : ∀ t : Fin grid0.N, _)
theorem at9 : ∀ t : Fin cfg0.N, win0_9.index t = ![t.val, 0] := (by decide +kernel : ∀ t : Fin grid0.N, _)

theorem ld2 (X : Vec Ideal S256x4096 .f32) (r : Fin 256) (l : Fin 2048) :
    (View.ld X r0_2 : Vec Ideal S256x2048 .f32) (ix2 r l) = X (ix2 r ⟨l.val, by omega⟩) := by
  refine View.ld_unit_apply_of X _ _ _ _ _ fun a => ?_
  fin_cases a <;> simp

theorem ld3 (X : Vec Ideal S256x4096 .f32) (r : Fin 256) (l : Fin 2048) :
    (View.ld X r0_3 : Vec Ideal S256x2048 .f32) (ix2 r l) = X (ix2 r ⟨2048 + l.val, by omega⟩) := by
  refine View.ld_unit_apply_of X _ _ _ _ _ fun a => ?_
  fin_cases a <;> simp

/-- One row of a block is one row of the array. -/
theorem block_row (c : Dev nD) (t : Fin cfg0.N) (r : Fin 256) (q : Fin 2048) (R : Fin 32768) (hR : R.val = t.val * 256 + r.val) :
    k0_pay2 (iblk m c 0 t) (iblk m c 4 t) (iblk m c 1 t) (iblk m c 5 t) (View.ld (iblk m c 2 t) r0_2)
      (View.ld (iblk m c 2 t) r0_3) (iblk m c 3 t) (iblk m c 6 t) (ix2 r q)
      = row (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) R q := by
  have e0 : ∀ k : Fin 1024, (iblk m c 0 t : Vec Ideal S256x1024 .bf16) (ix2 r k)
      = (m ((c.tc : Thread nD τ).loc main_arg0) : Vec Ideal S4x8192x1024 .bf16) (ix3 ⟨R.val / 8192, by omega⟩ ⟨R.val % 8192, by omega⟩ k) := by
    intro k
    blk_ext! [iblk, V, at0 t, hR]
  have e1 : ∀ k : Fin 1024, (iblk m c 1 t : Vec Ideal S256x1024 .bf16) (ix2 r k)
      = (m ((c.tc : Thread nD τ).loc main_arg1) : Vec Ideal S4x8192x1024 .bf16) (ix3 ⟨R.val / 8192, by omega⟩ ⟨R.val % 8192, by omega⟩ k) := by
    intro k
    blk_ext! [iblk, V, at1 t, hR]
  have e2 : ∀ (l : Fin 4096), (iblk m c 2 t : Vec Ideal S256x4096 .f32) (ix2 r l)
      = (m ((c.tc : Thread nD τ).loc main_arg2) : Vec Ideal S32768x12288 .f32) (ix2 R ⟨8192 + l.val, by omega⟩) := by
    intro l
    blk_ext! [iblk, V, at2 t, hR]
  have e3 : ∀ k : Fin 2048, (iblk m c 3 t : Vec Ideal S256x2048 .f32) (ix2 r k)
      = (m ((c.tc : Thread nD τ).loc main_arg3) : Vec Ideal S4x8192x2048 .f32) (ix3 ⟨R.val / 8192, by omega⟩ ⟨R.val % 8192, by omega⟩ k) := by
    intro k
    blk_ext! [iblk, V, at3 t, hR]
  have e4 : ∀ (k : Fin 1024) (l : Fin 2048), (iblk m c 4 t : Vec Ideal S1024x2048 .bf16) (ix2 k l)
      = (m ((c.tc : Thread nD τ).loc main_arg4) : Vec Ideal S1x1024x2048 .f32) (ix3 0 k l) := by
    intro k l
    blk_ext! [iblk, V, at4 t, hR]
  have e5 : ∀ (k : Fin 1024) (l : Fin 2048), (iblk m c 5 t : Vec Ideal S1024x2048 .bf16) (ix2 k l)
      = (m ((c.tc : Thread nD τ).loc main_arg5) : Vec Ideal S1x1024x2048 .f32) (ix3 0 k l) := by
    intro k l
    blk_ext! [iblk, V, at5 t, hR]
  have e6 : ∀ (k l : Fin 2048), (iblk m c 6 t : Vec Ideal S2048x2048 .bf16) (ix2 k l)
      = (m ((c.tc : Thread nD τ).loc main_arg6) : Vec Ideal S1x2048x2048 .f32) (ix3 0 k l) := by
    intro k l
    blk_ext! [iblk, V, at6 t, hR]
  refine (pay2_apply _ _ _ _ _ _ _ _ r q).trans ?_
  unfold row
  refine congrArg₂ (HAdd.hAdd (α := EReal) (β := EReal)) (e3 q) (Finset.sum_congr rfl fun l _ => ?_)
  refine congrArg₂ (HMul.hMul (α := EReal) (β := EReal)) ?_ (e6 l q)
  unfold mix
  simp only [e0, e1, e4, e5]
  rw [ld2, ld3, e2, e2]
  congr 5
  apply Fin.ext
  show 8192 + (2048 + l.val) = 10240 + l.val
  omega

/-- The first result's array. -/
theorem final8 (c : Dev nD) :
    (dats m 0 c).arrAt 8 cfg0.N = Cert.MergeRefIdeal.Read.val_main_v28 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  refine (dats m 0 c).arrAt_eq_of_covers 8 _ (by decide +kernel) fun t hf y => ?_
  blk_simp
  rw [after0_8]
  obtain ⟨r, q, rfl⟩ : ∃ (r : Fin 256) (q : Fin 2048), y = ix2 r q := ⟨y 0, y 1, funext fun a => by fin_cases a <;> rfl⟩
  frame_out
  refine (block_row m c t r q ⟨t.val * 256 + r.val, by
    have : t.val < 128 := t.isLt
    omega⟩ rfl).trans ((ref_sum _ _ _ _ _ _ _ _ q).symm.trans (congrArg _ ?_))
  blk_ext [at8 t]

/-- The second result's array. -/
theorem final9 (c : Dev nD) :
    (dats m 0 c).arrAt 9 cfg0.N = Cert.MergeRefIdeal.Read.val_main_v43 (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) := by
  refine (dats m 0 c).arrAt_eq_of_covers 9 _ (by decide +kernel) fun t hf y => ?_
  blk_simp
  rw [after0_9]
  obtain ⟨r, q, rfl⟩ : ∃ (r : Fin 256) (q : Fin 2048), y = ix2 r q := ⟨y 0, y 1, funext fun a => by fin_cases a <;> rfl⟩
  frame_out
  have ht : t.val < 128 := t.isLt
  have e7 : ∀ k : Fin 2048, (iblk m c 7 t : Vec Ideal S1x2048 .f32) (ix2 0 k)
      = (m ((c.tc : Thread nD τ).loc main_arg7) : Vec Ideal S1x2048 .f32) (ix2 0 k) := by
    intro k
    blk_ext! [iblk, V, at7 t]
  refine (pay1_apply _ _ _ _ _ _ _ _ _ r q).trans ?_
  refine (congrArg₂ (fun f w => normed f w q) (funext fun k => block_row m c t r k ⟨t.val * 256 + r.val, by omega⟩ rfl) (e7 q)).trans ?_
  refine (ref_norm _ _ _ _ _ _ _ _ _ q).symm.trans (congrArg _ ?_)
  blk_ext [at9 t]

end Cert.Merge.Value

end
-- ==== Proof.Core.lean ====
/-
  The mathematics of one HGRN2 head over one chunk of 64 positions, apart from any program: what the kernel
  computes by levels (halves of blocks of 64, 32, …, 2 positions) and what the layer's definition computes by pairs
  of positions are the same extended reals, whenever the logarithms of the forget gates are real and not positive.
-/
module

public import Idealize.ShloMosaic.PureOps.Ideal
public import Idealize.ShloMosaic.Lib.Pointwise.Tactic

@[expose] public section

noncomputable section

open Idealize.ShloMosaic

namespace Cert.Hgrn

/-! ### Extended reals -/

theorem exp_coe (r : ℝ) : Ideal.exp (r : EReal) = ((Real.exp r : ℝ) : EReal) := rfl

/-- A finite sum of reals, taken in the extended reals, is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The logistic function of any extended real is a real of `[0, 1]`. -/
theorem logistic_real (x : EReal) : ∃ r : ℝ, Ideal.logistic x = (r : EReal) ∧ 0 ≤ r ∧ r ≤ 1 := by
  induction x using EReal.rec with
  | bot =>
    refine ⟨0, ?_, le_refl _, zero_le_one⟩
    have h : Ideal.exp (-(⊥ : EReal)) = ⊤ := by rw [EReal.neg_bot]; rfl
    rw [Ideal.logistic, h, Ideal.div, show (1 : EReal) + ⊤ = ⊤ from EReal.add_top_of_ne_bot (by decide)]
    simp
  | top =>
    refine ⟨1, ?_, zero_le_one, le_refl _⟩
    have h : Ideal.exp (-(⊤ : EReal)) = 0 := by rw [EReal.neg_top]; rfl
    rw [Ideal.logistic, h, Ideal.div]
    simp
  | coe r =>
    have hp : (0 : ℝ) < 1 + Real.exp (-r) := by positivity
    refine ⟨1 / (1 + Real.exp (-r)), ?_, by positivity, ?_⟩
    · have h : Ideal.exp (-(r : EReal)) = ((Real.exp (-r) : ℝ) : EReal) := by rw [← EReal.coe_neg]; rfl
      rw [Ideal.logistic, h, show (1 : EReal) + ((Real.exp (-r) : ℝ) : EReal) = ((1 + Real.exp (-r) : ℝ) : EReal) from by
        rw [EReal.coe_add]; rfl, Ideal.div_coe hp.ne', one_mul]
    · rw [div_le_one hp]; have := Real.exp_pos (-r); linarith

/-- With a lower bound strictly between 0 and 1 the forget gate `lb + (1 - lb) * σ(x)` is a real of `(0, 1]`: its
    logarithm is real and not positive, and its exponential gives the gate back. -/
theorem gate_log {b : ℝ} (h0 : 0 < b) (h1 : b < 1) (x : EReal) :
    ∃ l : ℝ, Ideal.log ((b : EReal) + (1 - (b : EReal)) * Ideal.logistic x) = (l : EReal) ∧ l ≤ 0 ∧
      (b : EReal) + (1 - (b : EReal)) * Ideal.logistic x = ((Real.exp l : ℝ) : EReal) := by
  obtain ⟨r, hr, r0, r1⟩ := logistic_real x
  have e : (b : EReal) + (1 - (b : EReal)) * Ideal.logistic x = ((b + (1 - b) * r : ℝ) : EReal) := by
    rw [hr, EReal.coe_add, EReal.coe_mul, EReal.coe_sub]; rfl
  have hpos : 0 < b + (1 - b) * r := by nlinarith
  have hle : b + (1 - b) * r ≤ 1 := by nlinarith
  refine ⟨Real.log (b + (1 - b) * r), ?_, Real.log_nonpos hpos.le hle, ?_⟩
  · rw [e]; show (if b + (1 - b) * r ≤ 0 then ⊥ else _) = _
    rw [if_neg (not_le.mpr hpos)]
  · rw [e, Real.exp_log hpos]

/-- `0 - x` is `-x`, and the kernel's `σ(0 - x)` the reference's `σ(-x)`. -/
theorem zero_sub' (x : EReal) : (0 : EReal) - x = -x := by rw [sub_eq_add_neg, zero_add]

/-! ### Segment sums through a 0/1 table -/

/-- A 0/1 row times reals, summed, is the real sum over the row's ones. -/
theorem row_sum {n : ℕ} (T : Fin n → EReal) (P : Fin n → Prop) [DecidablePred P]
    (hT : ∀ i, T i = if P i then 1 else 0) (l : Fin n → ℝ) :
    ∑ i, T i * (l i : EReal) = ((∑ i, if P i then l i else 0 : ℝ) : EReal) := by
  rw [← sum_coe]
  refine Finset.sum_congr rfl fun i _ => ?_
  rw [hT i]; split <;> simp

/-- The kernel's three-piece product of a 0/1 row with reals (the value, what its first rounding left, what its second
    left: exactly the value, 0 and 0) is the real sum over the row's ones. -/
theorem row_sum3 {n : ℕ} (T : Fin n → EReal) (P : Fin n → Prop) [DecidablePred P]
    (hT : ∀ i, T i = if P i then 1 else 0) (l : Fin n → ℝ) :
    (∑ i, T i * (l i : EReal)) + ((∑ i, T i * ((l i : EReal) - (l i : EReal))) +
      ∑ i, T i * (((l i : EReal) - (l i : EReal)) - ((l i : EReal) - (l i : EReal)))) =
      ((∑ i, if P i then l i else 0 : ℝ) : EReal) := by
  have z : ∀ i, (l i : EReal) - (l i : EReal) = 0 := fun i => by
    rw [← EReal.coe_sub, sub_self]; rfl
  simp only [z, sub_zero, mul_zero, Finset.sum_const_zero, add_zero]
  exact row_sum T P hT l

/-! ### The segments -/

/-- The ones of row `64 b + t` of the kernel's segment table: block 0 the positions up to `t`, block 1 the positions
    after `t`, block `b + 2` the positions between `t` and the middle of its block of `2 m`, `m = 32, 16, 8, 4, 2`. -/
def seg (r i : ℕ) : Bool :=
  let b := r / 64
  let t := r % 64
  if b = 0 then i ≤ t
  else if b = 1 then t < i
  else
    let m := 2 ^ (7 - b)
    let mid := t / (2 * m) * (2 * m) + m
    if m ≤ t % (2 * m) then mid ≤ i && i ≤ t else t < i && i < mid

/-- Whether the pair `(t, j)`, `j < t`, is separated at the level of half blocks of `m`: both in one block of `2 m`,
    in different halves. -/
def sepAt (m t j : ℕ) : Bool := (t / (2 * m) == j / (2 * m)) && (t / m != j / m) && (j < t)

/-- The kernel's level table: 0 on the diagonal, −1 above it, and below it the level that separates the pair. -/
def lvl (t j : ℕ) : BitVec 32 :=
  if t < j then 0xFFFFFFFF#32
  else if sepAt 32 t j then 1#32
  else if sepAt 16 t j then 2#32
  else if sepAt 8 t j then 3#32
  else if sepAt 4 t j then 4#32
  else if sepAt 2 t j then 5#32
  else if sepAt 1 t j then 6#32
  else 0#32

/-- The sum of `l` over the ones of row `r`. -/
def segSum (l : Fin 64 → ℝ) (r : ℕ) : ℝ := ∑ i : Fin 64, if seg r i then l i else 0

/-- The sum of `l` over the positions up to `t`. -/
def cum (l : Fin 64 → ℝ) (t : ℕ) : ℝ := ∑ i : Fin 64, if (i : ℕ) ≤ t then l i else 0

theorem segSum_cum (l : Fin 64 → ℝ) (t : Fin 64) : segSum l t = cum l t := by
  refine Finset.sum_congr rfl fun i _ => ?_
  have h : seg t i = decide ((i : ℕ) ≤ t) := by
    have h1 : (t : ℕ) / 64 = 0 := by omega
    have h2 : (t : ℕ) % 64 = t := by omega
    simp [seg, h1, h2]
  simp [h]

/-- Block 1's row `t` sums what comes after `t`: the whole sum less the sum up to `t`. -/
theorem segSum_rest (l : Fin 64 → ℝ) (t : Fin 64) : segSum l (64 + t) = cum l 63 - cum l t := by
  unfold segSum cum
  rw [← Finset.sum_sub_distrib]
  refine Finset.sum_congr rfl fun i _ => ?_
  have h : seg (64 + t) i = decide ((t : ℕ) < i) := by
    have h1 : (64 + (t : ℕ)) / 64 = 1 := by omega
    have h2 : (64 + (t : ℕ)) % 64 = t := by omega
    simp [seg, h1, h2]
  have hi : (i : ℕ) ≤ 63 := by omega
  simp only [h, hi, if_true, decide_eq_true_eq]
  split_ifs with a b b
  · omega
  · simp
  · simp
  · omega

/-- The two halves of a separated pair: row `t`'s segment and row `j`'s are disjoint and together the positions after
    `j` up to `t`. -/
theorem segSum_pair (l : Fin 64 → ℝ) (b : ℕ) (t j : Fin 64) (hb : b < 5) (h : sepAt (2 ^ (5 - b)) t j = true) :
    segSum l (64 * (b + 2) + t) + segSum l (64 * (b + 2) + j) = cum l t - cum l j := by
  unfold segSum cum
  rw [← Finset.sum_sub_distrib, ← Finset.sum_add_distrib]
  refine Finset.sum_congr rfl fun i _ => ?_
  have hd : ∀ s : Fin 64, (64 * (b + 2) + (s : ℕ)) / 64 = b + 2 := fun s => by omega
  have hm : ∀ s : Fin 64, (64 * (b + 2) + (s : ℕ)) % 64 = s := fun s => by omega
  have hb0 : b + 2 ≠ 0 := by omega
  have hb1 : b + 2 ≠ 1 := by omega
  have he : 7 - (b + 2) = 5 - b := by omega
  simp only [seg, hd, hm, hb0, hb1, he, if_false]
  simp only [sepAt, Bool.and_eq_true, beq_iff_eq, bne_iff_ne, decide_eq_true_eq] at h
  obtain ⟨⟨h1, h2⟩, h3⟩ := h
  have key : ∀ m : ℕ, (m = 32 ∨ m = 16 ∨ m = 8 ∨ m = 4 ∨ m = 2) → (t : ℕ) / (2 * m) = j / (2 * m) → (t : ℕ) / m ≠ j / m →
      m ≤ (t : ℕ) % (2 * m) ∧ ¬ m ≤ (j : ℕ) % (2 * m) ∧ (j : ℕ) < (t : ℕ) / (2 * m) * (2 * m) + m ∧
        (t : ℕ) / (2 * m) * (2 * m) + m ≤ t := by
    rintro m (rfl | rfl | rfl | rfl | rfl) a b <;> omega
  have hmm : 2 ^ (5 - b) = 32 ∨ 2 ^ (5 - b) = 16 ∨ 2 ^ (5 - b) = 8 ∨ 2 ^ (5 - b) = 4 ∨ 2 ^ (5 - b) = 2 := by
    interval_cases b <;> simp
  obtain ⟨k1, k2, k3, k4⟩ := key _ hmm h1 h2
  rw [if_pos k1, if_neg k2, ← h1]
  generalize (t : ℕ) / (2 * 2 ^ (5 - b)) * (2 * 2 ^ (5 - b)) + 2 ^ (5 - b) = mid at *
  simp only [Bool.and_eq_true, decide_eq_true_eq]
  split_ifs <;> first | omega | simp

/-- The last level separates neighbours: `t = j + 1`. -/
theorem sepAt_one {t j : ℕ} (h : sepAt 1 t j = true) : t = j + 1 := by
  simp only [sepAt, Bool.and_eq_true, beq_iff_eq, bne_iff_ne, decide_eq_true_eq] at h
  omega

theorem cum_succ (l : Fin 64 → ℝ) (t : Fin 64) (j : ℕ) (h : (t : ℕ) = j + 1) : cum l t = cum l j + l t := by
  have e : l t = ∑ i : Fin 64, if i = t then l i else 0 := by simp
  rw [e]; unfold cum
  rw [← Finset.sum_add_distrib]
  refine Finset.sum_congr rfl fun i _ => ?_
  by_cases c : i = t
  · subst c; simp [h]
  · have hc : (i : ℕ) ≠ t := fun e => c (Fin.ext e)
    by_cases d : (i : ℕ) ≤ t
    · have d' : (i : ℕ) ≤ j := by omega
      simp [c, d, d']
    · have d' : ¬ (i : ℕ) ≤ j := by omega
      simp [c, d, d']

/-- With no positive term the running sum does not grow. -/
theorem cum_le (l : Fin 64 → ℝ) (hl : ∀ i, l i ≤ 0) {t j : ℕ} (h : j ≤ t) : cum l t - cum l j ≤ 0 := by
  unfold cum
  rw [← Finset.sum_sub_distrib]
  refine Finset.sum_nonpos fun i _ => ?_
  split_ifs with a b b
  · simp
  · simpa using hl i
  · omega
  · simp

/-! ### The scores -/

/-- A pair's score as the kernel adds it up: one term per level, all but the pair's own level's masked to 0. `E r d` is
    the exponential of segment `r`'s sum, `f` the gate itself, which serves the last level. -/
def levelScore (q k f : Fin 64 → Fin 128 → EReal) (E : ℕ → Fin 128 → EReal) (L : BitVec 32) (t j : Fin 64) : EReal :=
  (((((((if L = 0#32 then ∑ d, q t d * k j d else 0)
    + (if L = 1#32 then ∑ d, (q t d * E (128 + t) d) * (k j d * E (128 + j) d) else 0))
    + (if L = 2#32 then ∑ d, (q t d * E (192 + t) d) * (k j d * E (192 + j) d) else 0))
    + (if L = 3#32 then ∑ d, (q t d * E (256 + t) d) * (k j d * E (256 + j) d) else 0))
    + (if L = 4#32 then ∑ d, (q t d * E (320 + t) d) * (k j d * E (320 + j) d) else 0))
    + (if L = 5#32 then ∑ d, (q t d * E (384 + t) d) * (k j d * E (384 + j) d) else 0))
    + (if L = 6#32 then ∑ d, (q t d * f t d) * k j d else 0))

/-- A pair's decay in the layer's definition, from the running sums of the gates' logarithms. -/
def decay (c : ℕ → EReal) (t j : ℕ) : EReal := if j ≤ t then Ideal.exp (min (c t - c j) 0) else 0

/-- A pair's score in the layer's definition. -/
def pairScore (q k : Fin 64 → Fin 128 → EReal) (c : ℕ → Fin 128 → EReal) (t j : Fin 64) : EReal :=
  ∑ d, q t d * k j d * decay (fun s => c s d) t j

theorem lvl_above {t j : ℕ} (h : t < j) : lvl t j = 0xFFFFFFFF#32 := by simp [lvl, h]

theorem lvl_diag (t : ℕ) : lvl t t = 0#32 := by simp [lvl, sepAt]

/-- Every pair below the diagonal is separated at exactly the level its table entry names. -/
theorem lvl_below {t j : Fin 64} (h : j < t) :
    (∃ b : ℕ, b < 5 ∧ sepAt (2 ^ (5 - b)) t j = true ∧ lvl t j = BitVec.ofNat 32 (b + 1)) ∨
      (sepAt 1 t j = true ∧ lvl t j = 6#32) := by
  have hn : ¬ (t : ℕ) < j := by have : (j : ℕ) < t := h; omega
  have h' : (j : ℕ) < t := h
  unfold lvl
  rw [if_neg hn]
  by_cases h1 : sepAt 32 t j = true
  · exact .inl ⟨0, by omega, h1, by rw [if_pos h1]⟩
  rw [if_neg h1]
  by_cases h2 : sepAt 16 t j = true
  · exact .inl ⟨1, by omega, h2, by rw [if_pos h2]⟩
  rw [if_neg h2]
  by_cases h3 : sepAt 8 t j = true
  · exact .inl ⟨2, by omega, h3, by rw [if_pos h3]⟩
  rw [if_neg h3]
  by_cases h4 : sepAt 4 t j = true
  · exact .inl ⟨3, by omega, h4, by rw [if_pos h4]⟩
  rw [if_neg h4]
  by_cases h5 : sepAt 2 t j = true
  · exact .inl ⟨4, by omega, h5, by rw [if_pos h5]⟩
  rw [if_neg h5]
  by_cases h6 : sepAt 1 t j = true
  · exact .inr ⟨h6, by rw [if_pos h6]⟩
  exfalso
  simp only [sepAt, Bool.and_eq_true, beq_iff_eq, bne_iff_ne, decide_eq_true_eq, h', and_true, not_and,
    not_not] at h1 h2 h3 h4 h5 h6
  have e1 := h1 (by omega)
  have e2 := h2 e1
  have e3 := h3 e2
  have e4 := h4 e3
  have e5 := h5 e4
  have e6 := h6 e5
  omega

theorem decay_coe (l : Fin 64 → ℝ) (hl : ∀ i, l i ≤ 0) {t j : ℕ} (h : j ≤ t) :
    decay (fun s => ((cum l s : ℝ) : EReal)) t j = ((Real.exp (cum l t - cum l j) : ℝ) : EReal) := by
  rw [decay, if_pos h, ← EReal.coe_sub, min_eq_left (by exact_mod_cast cum_le l hl h)]
  rfl

theorem decay_above (c : ℕ → EReal) {t j : ℕ} (h : t < j) : decay c t j = 0 := by
  rw [decay, if_neg (by omega)]

/-- One level's term: the two halves' factors multiply to the pair's decay. -/
theorem term_eq (x y : EReal) {a b c : ℝ} (h : a + b = c) :
    (x * ((Real.exp a : ℝ) : EReal)) * (y * ((Real.exp b : ℝ) : EReal)) = x * y * ((Real.exp c : ℝ) : EReal) := by
  rw [mul_mul_mul_comm, ← EReal.coe_mul, ← Real.exp_add, h]

/-- The kernel's score of a pair, added up by levels, is the definition's. -/
theorem score_eq (q k : Fin 64 → Fin 128 → EReal) (l : Fin 64 → Fin 128 → ℝ) (hl : ∀ i d, l i d ≤ 0) (t j : Fin 64) :
    levelScore q k (fun t d => ((Real.exp (l t d) : ℝ) : EReal))
        (fun r d => ((Real.exp (segSum (fun i => l i d) r) : ℝ) : EReal)) (lvl t j) t j =
      pairScore q k (fun s d => ((cum (fun i => l i d) s : ℝ) : EReal)) t j := by
  unfold pairScore levelScore
  rcases lt_trichotomy t j with h | h | h
  · have h' : (t : ℕ) < j := h
    rw [lvl_above h']
    simp [decay_above _ h']
  · subst h
    rw [lvl_diag]
    have hd : ∀ d, decay (fun s => ((cum (fun i => l i d) s : ℝ) : EReal)) t t = 1 := fun d => by
      rw [decay_coe _ (fun i => hl i d) le_rfl, sub_self, Real.exp_zero]; rfl
    simp [hd]
  · have h' : (j : ℕ) ≤ t := le_of_lt h
    have hd : ∀ d, decay (fun s => ((cum (fun i => l i d) s : ℝ) : EReal)) t j =
        ((Real.exp (cum (fun i => l i d) t - cum (fun i => l i d) j) : ℝ) : EReal) := fun d =>
      decay_coe _ (fun i => hl i d) h'
    simp only [hd]
    rcases lvl_below h with ⟨b, hb, hs, hL⟩ | ⟨hs, hL⟩
    · rw [hL]
      have hp := fun d => segSum_pair (fun i => l i d) b t j hb hs
      interval_cases b <;> simp <;> exact Finset.sum_congr rfl fun d _ => term_eq _ _ (hp d)
    · rw [hL]
      have hj := sepAt_one hs
      simp
      refine Finset.sum_congr rfl fun d _ => ?_
      rw [cum_succ _ t j hj, add_sub_cancel_left, mul_right_comm]

end Cert.Hgrn

end
-- ==== Proof.Head.lean ====
/-
  One head of the HGRN2 mixer over one chunk, as the kernel's body computes it: named stages over the vectors the body
  reads, and each stage read at an index.
-/
module

public import proofs.«01_k».proof.Proof.Gen.KernelIdeal
public import Idealize.ShloMosaic.Lib.Pointwise
public import proofs.«01_k».proof.Proof.Core

@[expose] public section

set_option maxRecDepth 16384

noncomputable section

open Idealize.ShloMosaic

namespace Cert.Hgrn.Head

open Cert.KernelIdeal

variable {F : FTy → Type} [FloatOps F]
open Cert.KernelIdeal.Gen

/-- The 64 positions of the chunk. -/
def rows (x : Vec F S1x64x128 .f32) : FVec F S64x128 .f32 := shapeCast S64x128 x shapeCasts_S1x64x128_S64x128

/-- `x * σ(x)`. -/
def silu (x : FVec F S64x128 .f32) : FVec F S64x128 .f32 := mulf x (logistic x)

def ones : FVec F S1x128 .f32 := broadcast S1x128 (Scalar.ofBits .f32 0x3F800000#32)

/-- The forget gate. -/
def forget (lb : FVec F S1x128 .f32) (x : FVec F S64x128 .f32) : FVec F S64x128 .f32 :=
  addf (broadcastTo S64x128 lb broadcasts_S1x128_S64x128)
    (mulf (broadcastTo S64x128 (subf ones lb) broadcasts_S1x128_S64x128) (logistic x))

/-- The key. -/
def key (lb : FVec F S1x128 .f32) (x : FVec F S64x128 .f32) : FVec F S64x128 .f32 :=
  mulf (broadcastTo S64x128 (subf ones lb) broadcasts_S1x128_S64x128)
    (logistic (subf (broadcast S64x128 (Scalar.ofBits .f32 0x00000000#32)) x))

/-- The table's product with one piece of the gate's logarithm. -/
def tableDot (sg : Vec F S448x64 .bf16) (x : FVec F S64x128 .bf16) : FVec F S448x128 .f32 :=
  matmul dot_S448x64_S64x128_S448x128_1_0_0_1_n_n none sg x (constant S448x128 .f32 0x00000000#32)

/-- What a rounding to bf16 leaves. -/
def residue (x : FVec F S64x128 .f32) : FVec F S64x128 .f32 := subf x (extf .f32 (truncf .bf16 x bitsLt_bf16_f32) bitsLt_bf16_f32)

/-- The exponentials of the table's segment sums of the gate's logarithm, which enters in three pieces. -/
def expSums (sg : Vec F S448x64 .bf16) (f : FVec F S64x128 .f32) : FVec F S448x128 .f32 :=
  exp (addf (tableDot sg (truncf .bf16 (log f) bitsLt_bf16_f32))
    (addf (tableDot sg (truncf .bf16 (residue (log f)) bitsLt_bf16_f32))
      (tableDot sg (truncf .bf16 (residue (residue (log f))) bitsLt_bf16_f32))))

/-- The pairs of one level, all others masked. -/
def level (lv : Vec F S64x64 .i32) (c : BitVec 32) (a b : FVec F S64x128 .f32) : FVec F S64x64 .f32 :=
  select (cmpi .eq lv (broadcast S64x64 c))
    (matmul dot_S64x128_S64x128_S64x64_1_1_0_0_n_n none (truncf .bf16 a bitsLt_bf16_f32) (truncf .bf16 b bitsLt_bf16_f32)
      (constant S64x64 .f32 0x00000000#32))
    (broadcast S64x64 (Scalar.ofBits .f32 0x00000000#32))

/-- The scores, level by level. -/
def scores (lv : Vec F S64x64 .i32) (q k f : FVec F S64x128 .f32) (e : FVec F S448x128 .f32) : FVec F S64x64 .f32 :=
  addf (addf (addf (addf (addf (addf (level lv 0#32 q k)
    (level lv 1#32 (mulf q (extractStridedSlice S64x128 ![128, 0] e slices_S448x128_o128_0_S64x128))
      (mulf k (extractStridedSlice S64x128 ![128, 0] e slices_S448x128_o128_0_S64x128))))
    (level lv 2#32 (mulf q (extractStridedSlice S64x128 ![192, 0] e slices_S448x128_o192_0_S64x128))
      (mulf k (extractStridedSlice S64x128 ![192, 0] e slices_S448x128_o192_0_S64x128))))
    (level lv 3#32 (mulf q (extractStridedSlice S64x128 ![256, 0] e slices_S448x128_o256_0_S64x128))
      (mulf k (extractStridedSlice S64x128 ![256, 0] e slices_S448x128_o256_0_S64x128))))
    (level lv 4#32 (mulf q (extractStridedSlice S64x128 ![320, 0] e slices_S448x128_o320_0_S64x128))
      (mulf k (extractStridedSlice S64x128 ![320, 0] e slices_S448x128_o320_0_S64x128))))
    (level lv 5#32 (mulf q (extractStridedSlice S64x128 ![384, 0] e slices_S448x128_o384_0_S64x128))
      (mulf k (extractStridedSlice S64x128 ![384, 0] e slices_S448x128_o384_0_S64x128))))
    (level lv 6#32 (mulf q f) k)

/-- The mixer's output before the head's norm. -/
def mixed (q v : FVec F S64x128 .f32) (e : FVec F S448x128 .f32) (s : FVec F S64x64 .f32) (st : FVec F S128x128 .f32) :
    FVec F S64x128 .f32 :=
  addf (matmul dot_S64x128_S128x128_S64x128_1_1_0_0_n_n none
      (truncf .bf16 (mulf q (extractStridedSlice S64x128 ![0, 0] e slices_S448x128_o0_0_S64x128)) bitsLt_bf16_f32)
      (truncf .bf16 st bitsLt_bf16_f32) (constant S64x128 .f32 0x00000000#32))
    (matmul dot_S64x64_S64x128_S64x128_1_0_0_1_n_n none (truncf .bf16 s bitsLt_bf16_f32) (truncf .bf16 v bitsLt_bf16_f32)
      (constant S64x128 .f32 0x00000000#32))

/-- The state after the chunk. -/
def nextState (k v : FVec F S64x128 .f32) (e : FVec F S448x128 .f32) (st : FVec F S128x128 .f32) : FVec F S128x128 .f32 :=
  addf (mulf st (broadcastTo S128x128
      (extractStridedSlice S1x128 ![63, 0] (extractStridedSlice S64x128 ![0, 0] e slices_S448x128_o0_0_S64x128)
        slices_S64x128_o63_0_S1x128) broadcasts_S1x128_S128x128))
    (matmul dot_S64x128_S64x128_S128x128_0_0_1_1_n_n none (truncf .bf16 v bitsLt_bf16_f32)
      (truncf .bf16 (mulf k (extractStridedSlice S64x128 ![64, 0] e slices_S448x128_o64_0_S64x128)) bitsLt_bf16_f32)
      (constant S128x128 .f32 0x00000000#32))

/-- The head's norm and its output gate. -/
def normGate (w : FVec F S1x128 .f32) (o g : FVec F S64x128 .f32) : FVec F S64x128 .f32 :=
  mulf (mulf (mulf o (broadcastTo S64x128 (rsqrt (addf
        (divf (shapeCast S64x1 (multiReduction .add [1] S64 (mulf o o) 0x00000000#32 reduces_S64x128_S64 (.inl rfl) rfl)
          shapeCasts_S64_S64x1) (broadcast S64x1 (Scalar.ofBits .f32 0x43000000#32)))
        (broadcast S64x1 (Scalar.ofBits .f32 0x358637BD#32)))) broadcasts_S64x1_S64x128))
      (broadcastTo S64x128 w broadcasts_S1x128_S64x128))
    (silu g)

def stateOf (st : Vec F S1x128x128 .f32) : FVec F S128x128 .f32 := shapeCast S128x128 st shapeCasts_S1x128x128_S128x128

/-- What the body stores into the head's lanes of the output. -/
def out (sg : Vec F S448x64 .bf16) (lv : Vec F S64x64 .i32) (w lb : FVec F S1x128 .f32) (qr fr vr gr : Vec F S1x64x128 .f32)
    (st : Vec F S1x128x128 .f32) : FVec F S1x64x128 .bf16 :=
  shapeCast S1x64x128 (truncf .bf16 (normGate w
    (mixed (silu (rows qr)) (rows vr) (expSums sg (forget lb (rows fr)))
      (scores lv (silu (rows qr)) (key lb (rows fr)) (forget lb (rows fr)) (expSums sg (forget lb (rows fr)))) (stateOf st))
    (rows gr)) bitsLt_bf16_f32) shapeCasts_S64x128_S1x64x128

/-- What the body stores as the head's state. -/
def state (sg : Vec F S448x64 .bf16) (lb : FVec F S1x128 .f32) (fr vr : Vec F S1x64x128 .f32)
    (st : Vec F S1x128x128 .f32) : FVec F S1x128x128 .f32 :=
  shapeCast S1x128x128 (nextState (key lb (rows fr)) (rows vr) (expSums sg (forget lb (rows fr))) (stateOf st))
    shapeCasts_S128x128_S1x128x128

/-- The gates' lower bounds: the first row of the softmax of the logits. -/
def bounds (ll : Vec F S2x1024 .f32) : FVec F S1x1024 .f32 :=
  have e : FVec F S2x1024 .f32 := exp (subf ll (broadcastTo S2x1024 (shapeCast S1x1024
    (multiReduction .maximumf [0] S1024 ll 0xFF800000#32 reduces_S2x1024_S1024 (.inl rfl) rfl) shapeCasts_S1024_S1x1024)
    broadcasts_S1x1024_S2x1024))
  divf (extractStridedSlice S1x1024 ![0, 0] e slices_S2x1024_o0_0_S1x1024)
    (shapeCast S1x1024 (multiReduction .add [0] S1024 e 0x00000000#32 reduces_S2x1024_S1024 (.inl rfl) rfl) shapeCasts_S1024_S1x1024)

/-! ### Read at an index -/

theorem rows_apply (x : Vec Ideal S1x64x128 .f32) (t : Fin 64) (d : Fin 128) : rows x (ix2 t d) = x (ix3 0 t d) := by
  pointwise [rows]

theorem silu_apply (x : FVec Ideal S64x128 .f32) (t : Fin 64) (d : Fin 128) :
    silu x (ix2 t d) = x (ix2 t d) * Ideal.logistic (x (ix2 t d)) := by
  pointwise [silu]

theorem forget_apply (lb : FVec Ideal S1x128 .f32) (x : FVec Ideal S64x128 .f32) (t : Fin 64) (d : Fin 128) :
    forget lb x (ix2 t d) = lb (ix2 0 d) + (1 - lb (ix2 0 d)) * Ideal.logistic (x (ix2 t d)) := by
  pointwise [forget, ones]

theorem key_apply (lb : FVec Ideal S1x128 .f32) (x : FVec Ideal S64x128 .f32) (t : Fin 64) (d : Fin 128) :
    key lb x (ix2 t d) = (1 - lb (ix2 0 d)) * Ideal.logistic (-(x (ix2 t d))) := by
  pointwise [key, ones, zero_sub']

theorem expSums_apply (sg : Vec Ideal S448x64 .bf16) (f : FVec Ideal S64x128 .f32) (r : Fin 448) (d : Fin 128) :
    expSums sg f (ix2 r d) = Ideal.exp ((∑ i : Fin 64, sg (ix2 r i) * Ideal.log (f (ix2 i d)))
      + ((∑ i : Fin 64, sg (ix2 r i) * (Ideal.log (f (ix2 i d)) - Ideal.log (f (ix2 i d))))
        + ∑ i : Fin 64, sg (ix2 r i) * ((Ideal.log (f (ix2 i d)) - Ideal.log (f (ix2 i d))) -
            (Ideal.log (f (ix2 i d)) - Ideal.log (f (ix2 i d)))))) := by
  pointwise [expSums, tableDot, residue, dot_S448x64_S64x128_S448x128_1_0_0_1_n_n]

theorem level_apply (lv : Vec Ideal S64x64 .i32) (c : BitVec 32) (a b : FVec Ideal S64x128 .f32) (t j : Fin 64) :
    level lv c a b (ix2 t j) = if lv (ix2 t j) = c then ∑ d : Fin 128, a (ix2 t d) * b (ix2 j d) else 0 := by
  pointwise [level, dot_S64x128_S64x128_S64x64_1_1_0_0_n_n]
  unfold Scalar.select IntOp.cmpi
  by_cases h : lv (ix2 t j) = c
  · simp [h]
  · have hn : (lv (ix2 t j) == c) = false := beq_eq_false_iff_ne.mpr h
    simp only [hn, if_neg h]
    rfl

theorem scores_apply (lv : Vec Ideal S64x64 .i32) (q k f : FVec Ideal S64x128 .f32) (e : FVec Ideal S448x128 .f32) (t j : Fin 64) :
    scores lv q k f e (ix2 t j) = levelScore (fun t d => q (ix2 t d)) (fun t d => k (ix2 t d)) (fun t d => f (ix2 t d))
      (fun r d => if h : r < 448 then e (ix2 ⟨r, h⟩ d) else 0) (lv (ix2 t j)) t j := by
  unfold scores levelScore
  have h0 := t.isLt
  have h1 := j.isLt
  simp only [dif_pos (show 128 + t.val < 448 by omega), dif_pos (show 128 + j.val < 448 by omega),
    dif_pos (show 192 + t.val < 448 by omega), dif_pos (show 192 + j.val < 448 by omega),
    dif_pos (show 256 + t.val < 448 by omega), dif_pos (show 256 + j.val < 448 by omega),
    dif_pos (show 320 + t.val < 448 by omega), dif_pos (show 320 + j.val < 448 by omega),
    dif_pos (show 384 + t.val < 448 by omega), dif_pos (show 384 + j.val < 448 by omega)]
  pointwise [level_apply]

theorem mixed_apply (q v : FVec Ideal S64x128 .f32) (e : FVec Ideal S448x128 .f32) (s : FVec Ideal S64x64 .f32)
    (st : FVec Ideal S128x128 .f32) (t : Fin 64) (d : Fin 128) :
    mixed q v e s st (ix2 t d) = (∑ c : Fin 128, (q (ix2 t c) * e (ix2 ⟨t.val, by omega⟩ c)) * st (ix2 d c))
      + ∑ j : Fin 64, s (ix2 t j) * v (ix2 j d) := by
  pointwise [mixed, dot_S64x128_S128x128_S64x128_1_1_0_0_n_n, dot_S64x64_S64x128_S64x128_1_0_0_1_n_n]

theorem nextState_apply (k v : FVec Ideal S64x128 .f32) (e : FVec Ideal S448x128 .f32) (st : FVec Ideal S128x128 .f32)
    (d c : Fin 128) :
    nextState k v e st (ix2 d c) = st (ix2 d c) * e (ix2 63 c)
      + ∑ j : Fin 64, v (ix2 j d) * (k (ix2 j c) * e (ix2 ⟨64 + j.val, by omega⟩ c)) := by
  pointwise [nextState, dot_S64x128_S64x128_S128x128_0_0_1_1_n_n]

theorem normGate_apply (w : FVec Ideal S1x128 .f32) (o g : FVec Ideal S64x128 .f32) (t : Fin 64) (d : Fin 128) :
    normGate w o g (ix2 t d) = o (ix2 t d) * Ideal.rsqrt (Ideal.div (∑ c : Fin 128, o (ix2 t c) * o (ix2 t c))
        (Ideal.ofBits .f32 0x43000000#32) + Ideal.ofBits .f32 0x358637BD#32) * w (ix2 0 d)
      * (g (ix2 t d) * Ideal.logistic (g (ix2 t d))) := by
  pointwise [normGate, silu]

theorem bounds_apply (ll : Vec Ideal S2x1024 .f32) (d : Fin 1024) :
    bounds ll (ix2 0 d) = Ideal.div (Ideal.exp (ll (ix2 0 d) - max (ll (ix2 0 d)) (ll (ix2 1 d))))
      (Ideal.exp (ll (ix2 0 d) - max (ll (ix2 0 d)) (ll (ix2 1 d))) + Ideal.exp (ll (ix2 1 d) - max (ll (ix2 0 d)) (ll (ix2 1 d)))) := by
  pointwise [bounds]
  rw [Fin.sum_univ_two]
  have hb : Ideal.ofBits .f32 4286578688#32 = ⊥ := by
    unfold Ideal.ofBits Ideal.ieee
    simp
  have hu : (Finset.univ : Finset (Fin 2)) = {0, 1} := by decide
  have hm : Finset.fold max (Ideal.ofBits .f32 4286578688#32) (fun x : Fin 2 => ll (ix2 x d)) Finset.univ
      = max (ll (ix2 0 d)) (ll (ix2 1 d)) := by
    rw [hb, hu]
    simp
  simp only [hm]

end Cert.Hgrn.Head

end
-- ==== Proof.Table.lean ====
/-
  The two tables the kernel is given, read entry by entry: the 448 × 64 segment table and the 64 × 64 level table.
-/
module

public import proofs.«01_k».proof.KernelIdeal
public import proofs.«01_k».proof.Proof.Core

@[expose] public section

set_option maxRecDepth 65536
set_option maxHeartbeats 0

noncomputable section

open Idealize.ShloMosaic

namespace Cert.Hgrn

/-- The segment table, block by block of 64 rows: every entry is the bf16 pattern of 1 or of 0, by `seg`. -/
theorem lit0_block (b : Fin 7) : ∀ r : Fin 64, ∀ i : Fin 64,
    Cert.KernelIdeal.lit0 ⟨64 * (64 * b.val + r.val) + i.val, by omega⟩
      = if seg (64 * b.val + r.val) i.val then 0x3F80#16 else 0x0000#16 := by
  fin_cases b <;> decide +kernel

/-- Every entry of the segment table is the bf16 pattern of 1 or of 0, by `seg`. -/
theorem lit0_rows (r : Fin 448) (i : Fin 64) :
    Cert.KernelIdeal.lit0 ⟨64 * r.val + i.val, by omega⟩ = if seg r.val i.val then 0x3F80#16 else 0x0000#16 := by
  have h := lit0_block ⟨r.val / 64, by omega⟩ ⟨r.val % 64, by omega⟩ i
  have e : 64 * (r.val / 64) + r.val % 64 = r.val := by omega
  simpa only [e] using h

/-- Every entry of the level table is `lvl`'s. -/
theorem lit2_rows : ∀ t : Fin 64, ∀ j : Fin 64,
    Cert.KernelIdeal.lit2 ⟨64 * t.val + j.val, by omega⟩ = lvl t j := by
  decide +kernel

end Cert.Hgrn

end
-- ==== Proof.Block.lean ====
/-
  The blocks a grid point of the recurrence call reads, entry by entry: pieces of the arguments, and the two tables.
-/
module

public import proofs.«01_k».proof.Proof.Gen.KernelIdeal.Value
public import proofs.«01_k».proof.Proof.Head
public import proofs.«01_k».proof.Proof.Table
public import Idealize.ShloMosaic.Lib.Pipeline.ValueKit.Tiles
public import Idealize.ShloMosaic.Lib.Pipeline.ReadBack
public import Idealize.ShloMosaic.Lib.Pipeline.ValueKit.Geometry
public import Idealize.ShloMosaic.Lib.Pipeline.ValueKit.Point
public import Idealize.ShloMosaic.Lib.StableHlo.ReadAt

@[expose] public section

set_option maxRecDepth 16384
set_option maxHeartbeats 1000000

noncomputable section

open Idealize.ShloMosaic

namespace Cert.Hgrn.Block

open Cert.KernelIdeal Cert.KernelIdeal.Gen Cert.KernelIdeal.Value

theorem at0 : ∀ t : Fin cfg0.N, win0_0.index t = ![t.val / 128, t.val % 128, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)
theorem at8 : ∀ t : Fin cfg0.N, win0_8.index t = ![0, 0] := (by decide +kernel : ∀ t : Fin grid0.N, _)
theorem at10 : ∀ t : Fin cfg0.N, win0_10.index t = ![0, 0] := (by decide +kernel : ∀ t : Fin grid0.N, _)
theorem at11 : ∀ t : Fin cfg0.N, win0_11.index t = ![0, 0, 0] := (by decide +kernel : ∀ t : Fin grid0.N, _)

variable (m : (ℓ : Loc nD τ sig) → Buf (Elt Ideal) ℓ) (c : Dev nD) (t : Fin cfg0.N)

theorem logits_apply (r : Fin 2) (d : Fin 1024) : (iblk m c 2 t : Vec Ideal S2x1024 .f32) (ix2 r d)
    = (m ((c.tc : Thread nD τ).loc main_arg2) : Vec Ideal S2x1024 .f32) (ix2 r d) := by
  blk_ext! [iblk, V, at2 t]

theorem state_apply (h : Fin 8) (a b : Fin 128) : (iblk m c 11 t : Vec Ideal S8x128x128 .f32) (ix3 h a b)
    = (m ((c.tc : Thread nD τ).loc main_arg8) : Vec Ideal S8x128x128 .f32) (ix3 h a b) := by
  blk_ext! [iblk, V, at11 t]

theorem entry_weight (d : Fin 128) : (V m c main_v1 : Vec Ideal S1x128 .f32) (ix2 0 d)
    = (m ((c.tc : Thread nD τ).loc main_arg3) : Vec Ideal S1x128 .f32) (ix2 0 d) := by
  unfold V
  unfold hostOps0 hostOps0_1 hostOps0_2 hostOps0_3 hostOps0_4
  after_reads_at

theorem entry_segments : V m c main_cst = (fun i => Ideal.ofBits .bf16 (lit0 (S448x64.rowMajor i)) : Vec Ideal S448x64 .bf16) := by
  unfold V
  unfold hostOps0 hostOps0_1 hostOps0_2 hostOps0_3 hostOps0_4
  after_reads_simp
  rfl

theorem entry_levels : V m c main_c = (fun i => lit2 (S64x64.rowMajor i) : Vec Ideal S64x64 .i32) := by
  unfold V
  unfold hostOps0 hostOps0_1 hostOps0_2 hostOps0_3 hostOps0_4
  after_reads_simp
  rfl

theorem weight_apply (d : Fin 128) : (iblk m c 3 t : Vec Ideal S1x128 .f32) (ix2 0 d)
    = (m ((c.tc : Thread nD τ).loc main_arg3) : Vec Ideal S1x128 .f32) (ix2 0 d) := by
  have e : (iblk m c 3 t : Vec Ideal S1x128 .f32) (ix2 0 d) = (V m c main_v1 : Vec Ideal S1x128 .f32) (ix2 0 d) := by
    blk_ext! [iblk, at3 t]
  exact e.trans (entry_weight m c d)

theorem segments_apply (r : Fin 448) (i : Fin 64) :
    (iblk m c 8 t : Vec Ideal S448x64 .bf16) (ix2 r i) = if seg r i then (1 : EReal) else (0 : EReal) := by
  have e : (iblk m c 8 t : Vec Ideal S448x64 .bf16) (ix2 r i) = (V m c main_cst : Vec Ideal S448x64 .bf16) (ix2 r i) := by
    blk_ext! [iblk, at8 t]
  have h : (V m c main_cst : Vec Ideal S448x64 .bf16) (ix2 r i) = Ideal.ofBits .bf16 (lit0 (S448x64.rowMajor (ix2 r i))) :=
    congrFun (entry_segments m c) (ix2 r i)
  have hr : (S448x64.rowMajor (ix2 r i)).val = 64 * r.val + i.val := by
    rw [Shape.rowMajor_val_two]
    change r.val * 64 + i.val = _
    omega
  have hl : lit0 (S448x64.rowMajor (ix2 r i)) = if seg r.val i.val then 0x3F80#16 else 0x0000#16 :=
    (congrArg lit0 (Fin.ext hr)).trans (lit0_rows r i)
  refine e.trans (h.trans ?_)
  rw [hl]
  split
  · simp [Ideal.ofBits, Ideal.ieee]
    rw [← EReal.coe_mul]
    norm_num
  · simp [Ideal.ofBits, Ideal.ieee]

theorem levels_apply (a b : Fin 64) : (iblk m c 10 t : Vec Ideal S64x64 .i32) (ix2 a b) = lvl a b := by
  have e : (iblk m c 10 t : Vec Ideal S64x64 .i32) (ix2 a b) = (V m c main_c : Vec Ideal S64x64 .i32) (ix2 a b) := by
    blk_ext! [iblk, at10 t]
  have h : (V m c main_c : Vec Ideal S64x64 .i32) (ix2 a b) = lit2 (S64x64.rowMajor (ix2 a b)) :=
    congrFun (entry_levels m c) (ix2 a b)
  have hr : (S64x64.rowMajor (ix2 a b)).val = 64 * a.val + b.val := by
    rw [Shape.rowMajor_val_two]
    change a.val * 64 + b.val = _
    omega
  exact e.trans (h.trans ((congrArg lit2 (Fin.ext hr)).trans (lit2_rows a b)))

theorem proj_apply (p : Fin 64) (q : Fin 8192) (hp) (hq) (B : Fin 4) (hB : B.val = t.val / 128) : (X0_0 m c t : Vec Ideal S1x64x8192 .f32) (ix3 0 p q)
    = (m ((c.tc : Thread nD τ).loc main_arg0) : Vec Ideal S4x8192x12288 .f32) (ix3 B ⟨t.val % 128 * 64 + p.val, hp⟩ ⟨q.val, hq⟩) := by
  unfold X0_0 Pipeline.Window.fill
  rw [dif_pos (moved0_0 t _)]
  blk_ext! [iblk, V, at0 t, hB]

end Cert.Hgrn.Block

end
-- ==== Proof.Chunk.lean ====
/-
  One head over one chunk: the kernel's stages, with the two constant tables and with forget gates whose logarithms are
  real and not positive, are the layer's own formulas of the running sums of those logarithms.
-/
module

public import proofs.«01_k».proof.Proof.Head

@[expose] public section

set_option maxRecDepth 16384

noncomputable section

open Idealize.ShloMosaic

namespace Cert.Hgrn

theorem levelScore_congr (q k f f' : Fin 64 → Fin 128 → EReal) (E E' : ℕ → Fin 128 → EReal) (hf : ∀ t d, f t d = f' t d)
    (h : ∀ r, r < 448 → ∀ d, E r d = E' r d) (L : BitVec 32) (t j : Fin 64) :
    levelScore q k f E L t j = levelScore q k f' E' L t j := by
  have ht := t.isLt
  have hj := j.isLt
  unfold levelScore
  simp only [hf, h (128 + t.val) (by omega), h (128 + j.val) (by omega), h (192 + t.val) (by omega), h (192 + j.val) (by omega),
    h (256 + t.val) (by omega), h (256 + j.val) (by omega), h (320 + t.val) (by omega), h (320 + j.val) (by omega),
    h (384 + t.val) (by omega), h (384 + j.val) (by omega)]

namespace Head

open Cert.KernelIdeal Cert.KernelIdeal.Gen

variable (sg : Vec Ideal S448x64 .bf16) (hs : ∀ (r : Fin 448) (i : Fin 64), sg (ix2 r i) = if seg r i then 1 else 0)
  (lv : Vec Ideal S64x64 .i32) (hv : ∀ t j : Fin 64, lv (ix2 t j) = lvl t j)
  (q k v f : FVec Ideal S64x128 .f32) (st : FVec Ideal S128x128 .f32) (l : Fin 64 → Fin 128 → ℝ)
  (hl : ∀ i d, l i d ≤ 0) (hlog : ∀ i d, Ideal.log (f (ix2 i d)) = (l i d : EReal))
  (hexp : ∀ i d, f (ix2 i d) = ((Real.exp (l i d) : ℝ) : EReal))

/-- The running sums of the logarithms. -/
def run (l : Fin 64 → Fin 128 → ℝ) (s : ℕ) (d : Fin 128) : EReal := ((cum (fun i => l i d) s : ℝ) : EReal)

include hs hlog in
theorem expSums_eq (r : Fin 448) (d : Fin 128) :
    expSums sg f (ix2 r d) = ((Real.exp (segSum (fun i => l i d) r) : ℝ) : EReal) := by
  rw [expSums_apply]
  simp only [hlog]
  rw [row_sum3 (fun i => sg (ix2 r i)) (fun i : Fin 64 => seg r i = true) (fun i => hs r i) (fun i => l i d), exp_coe]
  rfl

include hs hv hl hlog hexp in
theorem mixed_eq (t : Fin 64) (d : Fin 128) :
    mixed q v (expSums sg f) (scores lv q k f (expSums sg f)) st (ix2 t d)
      = (∑ c : Fin 128, (q (ix2 t c) * Ideal.exp (run l t c)) * st (ix2 d c))
        + ∑ j : Fin 64, pairScore (fun t d => q (ix2 t d)) (fun t d => k (ix2 t d)) (run l) t j * v (ix2 j d) := by
  rw [mixed_apply]
  refine congrArg₂ (HAdd.hAdd (α := EReal) (β := EReal)) (Finset.sum_congr rfl fun c _ => ?_) (Finset.sum_congr rfl fun j _ => ?_)
  · rw [expSums_eq sg hs f l hlog, run, exp_coe, ← segSum_cum]
  · rw [scores_apply, hv]
    refine congrArg (fun x : EReal => x * v (ix2 j d)) ?_
    refine Eq.trans (levelScore_congr _ _ _ (fun t d => ((Real.exp (l t d) : ℝ) : EReal)) _
      (fun r d => ((Real.exp (segSum (fun i => l i d) r) : ℝ) : EReal)) hexp (fun r hr d => ?_) _ t j) (score_eq _ _ l hl t j)
    rw [dif_pos hr, expSums_eq sg hs f l hlog]

include hs hlog in
theorem nextState_eq (d c : Fin 128) :
    nextState k v (expSums sg f) st (ix2 d c) = Ideal.exp (run l 63 c) * st (ix2 d c)
      + ∑ j : Fin 64, (k (ix2 j c) * Ideal.exp (run l 63 c - run l j c)) * v (ix2 j d) := by
  rw [nextState_apply]
  refine congrArg₂ (HAdd.hAdd (α := EReal) (β := EReal)) ?_ (Finset.sum_congr rfl fun j _ => ?_)
  · rw [expSums_eq sg hs f l hlog, run, exp_coe, mul_comm]
    have h := segSum_cum (fun i => l i c) 63
    exact congrArg (fun x : ℝ => ((Real.exp x : ℝ) : EReal) * st (ix2 d c)) h
  · rw [expSums_eq sg hs f l hlog, run, run, ← EReal.coe_sub, exp_coe, mul_comm, ← segSum_rest]

end Head

end Cert.Hgrn

end
-- ==== Proof.Point.lean ====
/-
  One grid point of the recurrence call: what its body leaves in the first output's block and in the HGRN2 state, head by
  head, as `Head.out` and `Head.state` of the point's input blocks and of the state before it.
-/
module

public import proofs.«01_k».proof.Proof.Gen.KernelIdeal.Value
public import proofs.«01_k».proof.Proof.Head
public import Idealize.ShloMosaic.Lib.Pipeline.ValueKit.Tiles
public import Idealize.ShloMosaic.Lib.Pipeline.ReadBack
public import Idealize.ShloMosaic.Lib.Pipeline.ValueKit.Geometry

@[expose] public section

set_option maxRecDepth 16384
set_option maxHeartbeats 4000000

noncomputable section

open Idealize.ShloMosaic

namespace Cert.Hgrn.Point

open Cert.KernelIdeal Cert.KernelIdeal.Gen Cert.KernelIdeal.Value

variable {F : FTy → Type} [FloatOps F]

/-- The 128 lanes of the projections' block from lane `o`. -/
def lanes (x : Vec F S1x64x8192 .f32) (o : ℕ) (ho : o + 128 ≤ 8192) : Vec F S1x64x128 .f32 := fun i =>
  x (ix3 0 (i 1) ⟨o + (i 2).val, by have h := (i 2).isLt; simp only [S1x64x128] at h; simp at h; omega⟩)

/-- The 128 lanes of the lower bounds from lane `o`. -/
def lower (ll : Vec F S2x1024 .f32) (o : ℕ) (ho : o + 128 ≤ 1024) : FVec F S1x128 .f32 := fun i =>
  Head.bounds ll (ix2 0 ⟨o + (i 1).val, by have h := (i 1).isLt; simp only [S1x128] at h; simp at h; omega⟩)

/-- One head's state. -/
def slab (s : Vec F S8x128x128 .f32) (h : Fin 8) : Vec F S1x128x128 .f32 := fun i => s (ix3 h (i 1) (i 2))

theorem ld_lanes (x : Vec F S1x64x8192 .f32) (o : ℕ) (inb) (ho : o + 128 ≤ 8192) :
    View.ld x (Rect.unit ![0, 0, o] ![1, 64, 128] inb) = lanes x o ho := by
  funext i
  refine View.ld_unit_apply_of x _ _ _ i _ fun a => ?_
  fin_cases a
  · have h := (i 0).isLt
    change (i 0).val < 1 at h
    change 0 = 0 + (i 0).val
    omega
  · change (i 1).val = 0 + (i 1).val
    omega
  · rfl

theorem slice_lower (ll : Vec F S2x1024 .f32) (o : ℕ) (hs) (ho : o + 128 ≤ 1024) :
    extractStridedSlice S1x128 ![0, o] (Head.bounds ll) hs = lower ll o ho := by
  funext i
  refine congrArg (Head.bounds ll) (funext fun a => Fin.ext ?_)
  fin_cases a
  · have h := (i 0).isLt
    change (i 0).val < 1 at h
    change 0 + (i 0).val = 0
    omega
  · rfl

theorem ld_slab (s : Vec F S8x128x128 .f32) (h : Fin 8) (inb) :
    View.ld s (Rect.unit ![h.val, 0, 0] ![1, 128, 128] inb) = slab s h := by
  funext i
  refine View.ld_unit_apply_of s _ _ _ i _ fun a => ?_
  fin_cases a
  · have h := (i 0).isLt
    change (i 0).val < 1 at h
    change _ = _ + (i 0).val
    simp
  · change (i 1).val = 0 + (i 1).val
    omega
  · change (i 2).val = 0 + (i 2).val
    omega

/-- A head's block of the output, from the point's blocks. -/
def headOut (x0 : Vec F S1x64x8192 .f32) (x2 : Vec F S2x1024 .f32) (x3 : Vec F S1x128 .f32) (x8 : Vec F S448x64 .bf16)
    (x10 : Vec F S64x64 .i32) (s : Vec F S8x128x128 .f32) (h : Fin 8) : FVec F S1x64x128 .bf16 :=
  Head.out x8 x10 x3 (lower x2 (128 * h.val) (by omega)) (lanes x0 (128 * h.val) (by omega))
    (lanes x0 (1024 + 128 * h.val) (by omega)) (lanes x0 (2048 + 128 * h.val) (by omega))
    (lanes x0 (3072 + 128 * h.val) (by omega)) (slab s h)

/-- A head's next state, from the point's blocks. -/
def headState (x0 : Vec F S1x64x8192 .f32) (x2 : Vec F S2x1024 .f32) (x8 : Vec F S448x64 .bf16)
    (s : Vec F S8x128x128 .f32) (h : Fin 8) : FVec F S1x128x128 .f32 :=
  Head.state x8 (lower x2 (128 * h.val) (by omega)) (lanes x0 (1024 + 128 * h.val) (by omega))
    (lanes x0 (2048 + 128 * h.val) (by omega)) (slab s h)

/-- The output's block. -/
def outBlock (x0 : Vec F S1x64x8192 .f32) (x2 : Vec F S2x1024 .f32) (x3 : Vec F S1x128 .f32) (x8 : Vec F S448x64 .bf16)
    (x10 : Vec F S64x64 .i32) (s : Vec F S8x128x128 .f32) : Vec F S1x64x1024 .bf16 := fun y =>
  headOut x0 x2 x3 x8 x10 s ⟨(y 2).val / 128, by have h := (y 2).isLt; change (y 2).val < 1024 at h; omega⟩
    (ix3 0 (y 1) ⟨(y 2).val % 128, by omega⟩)

/-- The state after the point. -/
def stateBlock (x0 : Vec F S1x64x8192 .f32) (x2 : Vec F S2x1024 .f32) (x8 : Vec F S448x64 .bf16)
    (s : Vec F S8x128x128 .f32) : Vec F S8x128x128 .f32 := fun y => headState x0 x2 x8 s (y 0) (ix3 0 (y 1) (y 2))

/-- The piece a head stores into the output is its part of `outBlock`. -/
theorem out_piece (x0 : Vec F S1x64x8192 .f32) (x2 : Vec F S2x1024 .f32) (x3 : Vec F S1x128 .f32) (x8 : Vec F S448x64 .bf16)
    (x10 : Vec F S64x64 .i32) (s : Vec F S8x128x128 .f32) (h : Fin 8) (oq of ov og : ℕ)
    (hq : oq = 128 * h.val) (hf : of = 1024 + 128 * h.val) (hv : ov = 2048 + 128 * h.val) (hg : og = 3072 + 128 * h.val)
    (oh : ℕ) (hh : oh = h.val) (inb8) (inb10) (inb3) (inb2) (inbq) (inbf) (inbv) (inbg) (inbs) (hsl) (inbo)
    (i : S1x64x128.Idx) :
    Head.out (View.ld x8 (Rect.unit ![0, 0] ![448, 64] inb8)) (View.ld x10 (Rect.unit ![0, 0] ![64, 64] inb10))
      (View.ld x3 (Rect.unit ![0, 0] ![1, 128] inb3))
      (extractStridedSlice S1x128 ![0, oq] (Head.bounds (View.ld x2 (Rect.unit ![0, 0] ![2, 1024] inb2))) hsl)
      (View.ld x0 (Rect.unit ![0, 0, oq] ![1, 64, 128] inbq))
      (View.ld x0 (Rect.unit ![0, 0, of] ![1, 64, 128] inbf))
      (View.ld x0 (Rect.unit ![0, 0, ov] ![1, 64, 128] inbv))
      (View.ld x0 (Rect.unit ![0, 0, og] ![1, 64, 128] inbg))
      (View.ld s (Rect.unit ![oh, 0, 0] ![1, 128, 128] inbs)) i
    = outBlock x0 x2 x3 x8 x10 s ((Rect.unit (s := S1x64x1024) ![0, 0, oq] ![1, 64, 128] inbo).emb i) := by
  subst hq hf hv hg hh
  have e8 : View.ld x8 (Rect.unit ![0, 0] ![448, 64] inb8) = x8 :=
    View.ld_unit_zero (S := S448x64) (by funext a; fin_cases a <;> rfl) inb8 x8
  have e10 : View.ld x10 (Rect.unit ![0, 0] ![64, 64] inb10) = x10 :=
    View.ld_unit_zero (S := S64x64) (by funext a; fin_cases a <;> rfl) inb10 x10
  have e3 : View.ld x3 (Rect.unit ![0, 0] ![1, 128] inb3) = x3 :=
    View.ld_unit_zero (S := S1x128) (by funext a; fin_cases a <;> rfl) inb3 x3
  have e2 : View.ld x2 (Rect.unit ![0, 0] ![2, 1024] inb2) = x2 :=
    View.ld_unit_zero (S := S2x1024) (by funext a; fin_cases a <;> rfl) inb2 x2
  rw [e8, e10, e3, e2, slice_lower x2 _ hsl (by omega), ld_lanes x0 _ inbq (by omega), ld_lanes x0 _ inbf (by omega),
    ld_lanes x0 _ inbv (by omega), ld_lanes x0 _ inbg (by omega), ld_slab s h inbs]
  have key : ∀ (h' : Fin 8) (j : S1x64x128.Idx), h' = h → j = i →
      headOut x0 x2 x3 x8 x10 s h i = headOut x0 x2 x3 x8 x10 s h' j := by
    rintro _ _ rfl rfl
    rfl
  have i0 : (i 0).val < 1 := (i 0).isLt
  have i2 : (i 2).val < 128 := (i 2).isLt
  have e2 : (((Rect.unit (s := S1x64x1024) ![0, 0, 128 * h.val] ![1, 64, 128] inbo).emb i) 2).val = 128 * h.val + (i 2).val :=
    ValueKit.rect_emb_unit_val _ _ inbo i 2
  have e1 : (((Rect.unit (s := S1x64x1024) ![0, 0, 128 * h.val] ![1, 64, 128] inbo).emb i) 1).val = 0 + (i 1).val :=
    ValueKit.rect_emb_unit_val _ _ inbo i 1
  refine key _ _ (Fin.ext ?_) (funext fun a => Fin.ext ?_)
  · simp only [e2]
    omega
  · fin_cases a
    · change 0 = (i 0).val
      omega
    · change (((Rect.unit (s := S1x64x1024) ![0, 0, 128 * h.val] ![1, 64, 128] inbo).emb i) 1).val = (i 1).val
      omega
    · change (((Rect.unit (s := S1x64x1024) ![0, 0, 128 * h.val] ![1, 64, 128] inbo).emb i) 2).val % 128 = (i 2).val
      omega

/-- The piece a head stores into the state is its part of `stateBlock`. -/
theorem state_piece (x0 : Vec F S1x64x8192 .f32) (x2 : Vec F S2x1024 .f32) (x8 : Vec F S448x64 .bf16)
    (s : Vec F S8x128x128 .f32) (h : Fin 8) (oq of ov : ℕ)
    (hq : oq = 128 * h.val) (hf : of = 1024 + 128 * h.val) (hv : ov = 2048 + 128 * h.val)
    (oh : ℕ) (hh : oh = h.val) (inb8) (inb2) (inbf) (inbv) (inbs) (hsl) (inbo)
    (i : S1x128x128.Idx) :
    Head.state (View.ld x8 (Rect.unit ![0, 0] ![448, 64] inb8))
      (extractStridedSlice S1x128 ![0, oq] (Head.bounds (View.ld x2 (Rect.unit ![0, 0] ![2, 1024] inb2))) hsl)
      (View.ld x0 (Rect.unit ![0, 0, of] ![1, 64, 128] inbf))
      (View.ld x0 (Rect.unit ![0, 0, ov] ![1, 64, 128] inbv))
      (View.ld s (Rect.unit ![oh, 0, 0] ![1, 128, 128] inbs)) i
    = stateBlock x0 x2 x8 s ((Rect.unit (s := S8x128x128) ![oh, 0, 0] ![1, 128, 128] inbo).emb i) := by
  subst hq hf hv hh
  have e8 : View.ld x8 (Rect.unit ![0, 0] ![448, 64] inb8) = x8 :=
    View.ld_unit_zero (S := S448x64) (by funext a; fin_cases a <;> rfl) inb8 x8
  have e2 : View.ld x2 (Rect.unit ![0, 0] ![2, 1024] inb2) = x2 :=
    View.ld_unit_zero (S := S2x1024) (by funext a; fin_cases a <;> rfl) inb2 x2
  rw [e8, e2, slice_lower x2 _ hsl (by omega), ld_lanes x0 _ inbf (by omega), ld_lanes x0 _ inbv (by omega), ld_slab s h inbs]
  have key : ∀ (h' : Fin 8) (j : S1x128x128.Idx), h' = h → j = i →
      headState x0 x2 x8 s h i = headState x0 x2 x8 s h' j := by
    rintro _ _ rfl rfl
    rfl
  have i0 : (i 0).val < 1 := (i 0).isLt
  have e0 : (((Rect.unit (s := S8x128x128) ![h.val, 0, 0] ![1, 128, 128] inbo).emb i) 0).val = h.val + (i 0).val :=
    ValueKit.rect_emb_unit_val _ _ inbo i 0
  have e1 : (((Rect.unit (s := S8x128x128) ![h.val, 0, 0] ![1, 128, 128] inbo).emb i) 1).val = 0 + (i 1).val :=
    ValueKit.rect_emb_unit_val _ _ inbo i 1
  have e2 : (((Rect.unit (s := S8x128x128) ![h.val, 0, 0] ![1, 128, 128] inbo).emb i) 2).val = 0 + (i 2).val :=
    ValueKit.rect_emb_unit_val _ _ inbo i 2
  refine key _ _ (Fin.ext ?_) (funext fun a => Fin.ext ?_)
  · omega
  · fin_cases a
    · change 0 = (i 0).val
      omega
    · change (((Rect.unit (s := S8x128x128) ![h.val, 0, 0] ![1, 128, 128] inbo).emb i) 1).val = (i 1).val
      omega
    · change (((Rect.unit (s := S8x128x128) ![h.val, 0, 0] ![1, 128, 128] inbo).emb i) 2).val = (i 2).val
      omega

variable (m : (ℓ : Loc nD τ sig) → Buf (Elt F) ℓ)

/-- At a point that is not the first of its row, the state after it. -/
theorem state_B (c : Dev nD) (t : Fin cfg0.N) (acc) (h0 : ¬ t.val % 128 = 0) :
    (stAt0 m c t.val t.isLt acc).2.2.1 = stateBlock (X0_0 m c t) (iblk m c 2 t) (iblk m c 8 t) acc.2.2.1 := by
  rw [stAt0_B m c t acc h0]
  dsimp only
  unfold sout0_B_0
  funext y
  refine View.read_writes_apply_of_pieces (Val := Elt F) _ _ _ _ (View.PiecesOf.mem ?_) y ?_
  · unfold Gen.kernelRun0_B
    dsimp only
    sl_unfold_run_names
    simp only [View.readAt_eq_ld, Memref.IsWhole.read_unread, read_unread_whole]
    exact ⟨state_piece _ _ _ _ 7 _ _ _ rfl rfl rfl _ rfl _ _ _ _ _ slices_S1x1024_o0_896_S1x128 inb_S8x128x128_S1x128x128_7_0_0,
      state_piece _ _ _ _ 6 _ _ _ rfl rfl rfl _ rfl _ _ _ _ _ slices_S1x1024_o0_768_S1x128 inb_S8x128x128_S1x128x128_6_0_0,
      state_piece _ _ _ _ 5 _ _ _ rfl rfl rfl _ rfl _ _ _ _ _ slices_S1x1024_o0_640_S1x128 inb_S8x128x128_S1x128x128_5_0_0,
      state_piece _ _ _ _ 4 _ _ _ rfl rfl rfl _ rfl _ _ _ _ _ slices_S1x1024_o0_512_S1x128 inb_S8x128x128_S1x128x128_4_0_0,
      state_piece _ _ _ _ 3 _ _ _ rfl rfl rfl _ rfl _ _ _ _ _ slices_S1x1024_o0_384_S1x128 inb_S8x128x128_S1x128x128_3_0_0,
      state_piece _ _ _ _ 2 _ _ _ rfl rfl rfl _ rfl _ _ _ _ _ slices_S1x1024_o0_256_S1x128 inb_S8x128x128_S1x128x128_2_0_0,
      state_piece _ _ _ _ 1 _ _ _ rfl rfl rfl _ rfl _ _ _ _ _ slices_S1x1024_o0_128_S1x128 inb_S8x128x128_S1x128x128_1_0_0,
      state_piece _ _ _ _ 0 _ _ _ rfl rfl rfl _ rfl _ _ _ _ _ slices_S1x1024_o0_0_S1x128 inb_S8x128x128_S1x128x128_0_0_0, trivial⟩
  · exact scover0_B_0 _ _ _ _ _ _ _ _ _ _ _ _ _ _ _ _ _ _ _ _ _ _ _ _ _ _ _ _ _ _ _ _ _ _ _ _ _ _ _ _ _ _ _ _ _ _ _ _ _ _ _ _ _ _ _ _ _ _ y

/-- What the first point of a row copies into the state. -/
theorem copy_whole (x : Vec F S8x128x128 .f32) (inb) :
    k0_pay3 (View.ld x (Rect.unit ![0, 0, 0] ![8, 128, 128] inb)) = x := by
  have h : View.ld x (Rect.unit ![0, 0, 0] ![8, 128, 128] inb) = x :=
    View.ld_unit_zero (S := S8x128x128) (by funext a; fin_cases a <;> rfl) inb x
  rw [h]
  unfold k0_pay3
  exact shapeCast_self _ _

/-- At the first point of a row, the state after it. -/
theorem state_A (c : Dev nD) (t : Fin cfg0.N) (acc) (h0 : t.val % 128 = 0) :
    (stAt0 m c t.val t.isLt acc).2.2.1 = stateBlock (X0_0 m c t) (iblk m c 2 t) (iblk m c 8 t) (iblk m c 11 t) := by
  rw [stAt0_A m c t acc h0]
  dsimp only
  unfold sout0_A_0
  funext y
  rw [View.read_writes_eq_canon]
  · unfold Gen.kernelRun0_A
    dsimp only
    sl_unfold_run_names
    simp (discharger := decide) only [View.readAt_eq_ld, Memref.IsWhole.read_unread, read_unread_whole, ↓View.readCov_skip, ↓View.readCov_fill,
      copy_whole]
    refine View.canon_append_of_piecesOf _ [_] [_, _, _, _, _, _, _, _] ?_ y ?_
    · exact ⟨state_piece _ _ _ _ 7 _ _ _ rfl rfl rfl _ rfl _ _ _ _ _ slices_S1x1024_o0_896_S1x128 inb_S8x128x128_S1x128x128_7_0_0,
      state_piece _ _ _ _ 6 _ _ _ rfl rfl rfl _ rfl _ _ _ _ _ slices_S1x1024_o0_768_S1x128 inb_S8x128x128_S1x128x128_6_0_0,
      state_piece _ _ _ _ 5 _ _ _ rfl rfl rfl _ rfl _ _ _ _ _ slices_S1x1024_o0_640_S1x128 inb_S8x128x128_S1x128x128_5_0_0,
      state_piece _ _ _ _ 4 _ _ _ rfl rfl rfl _ rfl _ _ _ _ _ slices_S1x1024_o0_512_S1x128 inb_S8x128x128_S1x128x128_4_0_0,
      state_piece _ _ _ _ 3 _ _ _ rfl rfl rfl _ rfl _ _ _ _ _ slices_S1x1024_o0_384_S1x128 inb_S8x128x128_S1x128x128_3_0_0,
      state_piece _ _ _ _ 2 _ _ _ rfl rfl rfl _ rfl _ _ _ _ _ slices_S1x1024_o0_256_S1x128 inb_S8x128x128_S1x128x128_2_0_0,
      state_piece _ _ _ _ 1 _ _ _ rfl rfl rfl _ rfl _ _ _ _ _ slices_S1x1024_o0_128_S1x128 inb_S8x128x128_S1x128x128_1_0_0,
      state_piece _ _ _ _ 0 _ _ _ rfl rfl rfl _ rfl _ _ _ _ _ slices_S1x1024_o0_0_S1x128 inb_S8x128x128_S1x128x128_0_0_0, trivial⟩
    · exact View.cover_of_tiledL (s := S8x128x128) _ ![1, 128, 128] (by sl_kernel_rfl) y
  · exact scover0_A_0 _ _ _ _ _ _ _ _ _ _ _ _ _ _ _ _ _ _ _ _ _ _ _ _ _ _ _ _ _ _ _ _ _ _ _ _ _ _ _ _ _ _ _ _ _ _ _ _ _ _ _ _ _ _ _

end Cert.Hgrn.Point

end
-- ==== Proof.PointOut.lean ====
/-
  One grid point of the recurrence call: what its body leaves in the first output's block.
-/
module

public import proofs.«01_k».proof.Proof.Gen.KernelIdeal.Value
public import proofs.«01_k».proof.Proof.Point
public import Idealize.ShloMosaic.Lib.Pipeline.ValueKit.Tiles
public import Idealize.ShloMosaic.Lib.Pipeline.ReadBack

@[expose] public section

set_option maxRecDepth 16384
set_option maxHeartbeats 1000000

noncomputable section

open Idealize.ShloMosaic

namespace Cert.Hgrn.Point

open Cert.KernelIdeal Cert.KernelIdeal.Gen Cert.KernelIdeal.Value

variable {F : FTy → Type} [FloatOps F]

/-- A vector that is the head's output stage by stage is the head's output. -/
theorem out_of {sg : Vec F S448x64 .bf16} {lv : Vec F S64x64 .i32} {w lb : FVec F S1x128 .f32} {qr fr vr gr : Vec F S1x64x128 .f32}
    {st : Vec F S1x128x128 .f32} {P : FVec F S1x64x128 .bf16} {q k f v g : FVec F S64x128 .f32} {e : FVec F S448x128 .f32}
    {s : FVec F S64x64 .f32} {st' : FVec F S128x128 .f32}
    (hP : P = shapeCast S1x64x128 (truncf .bf16 (Head.normGate w (Head.mixed q v e s st') g) bitsLt_bf16_f32)
      shapeCasts_S64x128_S1x64x128)
    (hg : g = Head.rows gr) (hv : v = Head.rows vr) (hst : st' = Head.stateOf st) (hq : q = Head.silu (Head.rows qr))
    (he : e = Head.expSums sg f) (hs : s = Head.scores lv q k f e) (hf : f = Head.forget lb (Head.rows fr))
    (hk : k = Head.key lb (Head.rows fr)) : P = Head.out sg lv w lb qr fr vr gr st := by
  subst hP hg hv hst hq hs he hf hk
  rfl

theorem weight_eq (x : Vec F S1x128 .f32) : k0_pay7 x = x := by
  unfold k0_pay7
  exact shapeCast_self _ _

variable (m : (ℓ : Loc nD τ sig) → Buf (Elt F) ℓ)

/-- At a point that is not the first of its row, the block of the output. -/
theorem out_B (c : Dev nD) (t : Fin cfg0.N) (acc) (h0 : ¬ t.val % 128 = 0) :
    (stAt0 m c t.val t.isLt acc).1
      = outBlock (X0_0 m c t) (iblk m c 2 t) (iblk m c 3 t) (iblk m c 8 t) (iblk m c 10 t) acc.2.2.1 := by
  rw [stAt0_B m c t acc h0]
  dsimp only
  unfold out0_B_14
  funext y
  refine View.read_writes_apply_of_pieces (Val := Elt F) _ _ _ _ (View.PiecesOf.mem ?_) y ?_
  · unfold Gen.kernelRun0_B
    dsimp only
    sl_unfold_run_names
    simp only [View.readAt_eq_ld, Memref.IsWhole.read_unread, read_unread_whole, weight_eq]
    refine ⟨?_, ?_, ?_, ?_, ?_, ?_, ?_, ?_, trivial⟩
    · refine fun x => (congrFun (out_of (k := Head.key _ (Head.rows _)) (f := Head.forget _ (Head.rows _)) rfl rfl rfl rfl rfl rfl rfl rfl rfl) x).trans
        (out_piece _ _ _ _ _ _ 7 896 1920 2944 3968 rfl rfl rfl rfl 7 rfl _ _ _ _ _ _ _ _ _ slices_S1x1024_o0_896_S1x128 inb_S1x64x1024_S1x64x128_0_0_896 x)
    · refine fun x => (congrFun (out_of (k := Head.key _ (Head.rows _)) (f := Head.forget _ (Head.rows _)) rfl rfl rfl rfl rfl rfl rfl rfl rfl) x).trans
        (out_piece _ _ _ _ _ _ 6 768 1792 2816 3840 rfl rfl rfl rfl 6 rfl _ _ _ _ _ _ _ _ _ slices_S1x1024_o0_768_S1x128 inb_S1x64x1024_S1x64x128_0_0_768 x)
    · refine fun x => (congrFun (out_of (k := Head.key _ (Head.rows _)) (f := Head.forget _ (Head.rows _)) rfl rfl rfl rfl rfl rfl rfl rfl rfl) x).trans
        (out_piece _ _ _ _ _ _ 5 640 1664 2688 3712 rfl rfl rfl rfl 5 rfl _ _ _ _ _ _ _ _ _ slices_S1x1024_o0_640_S1x128 inb_S1x64x1024_S1x64x128_0_0_640 x)
    · refine fun x => (congrFun (out_of (k := Head.key _ (Head.rows _)) (f := Head.forget _ (Head.rows _)) rfl rfl rfl rfl rfl rfl rfl rfl rfl) x).trans
        (out_piece _ _ _ _ _ _ 4 512 1536 2560 3584 rfl rfl rfl rfl 4 rfl _ _ _ _ _ _ _ _ _ slices_S1x1024_o0_512_S1x128 inb_S1x64x1024_S1x64x128_0_0_512 x)
    · refine fun x => (congrFun (out_of (k := Head.key _ (Head.rows _)) (f := Head.forget _ (Head.rows _)) rfl rfl rfl rfl rfl rfl rfl rfl rfl) x).trans
        (out_piece _ _ _ _ _ _ 3 384 1408 2432 3456 rfl rfl rfl rfl 3 rfl _ _ _ _ _ _ _ _ _ slices_S1x1024_o0_384_S1x128 inb_S1x64x1024_S1x64x128_0_0_384 x)
    · refine fun x => (congrFun (out_of (k := Head.key _ (Head.rows _)) (f := Head.forget _ (Head.rows _)) rfl rfl rfl rfl rfl rfl rfl rfl rfl) x).trans
        (out_piece _ _ _ _ _ _ 2 256 1280 2304 3328 rfl rfl rfl rfl 2 rfl _ _ _ _ _ _ _ _ _ slices_S1x1024_o0_256_S1x128 inb_S1x64x1024_S1x64x128_0_0_256 x)
    · refine fun x => (congrFun (out_of (k := Head.key _ (Head.rows _)) (f := Head.forget _ (Head.rows _)) rfl rfl rfl rfl rfl rfl rfl rfl rfl) x).trans
        (out_piece _ _ _ _ _ _ 1 128 1152 2176 3200 rfl rfl rfl rfl 1 rfl _ _ _ _ _ _ _ _ _ slices_S1x1024_o0_128_S1x128 inb_S1x64x1024_S1x64x128_0_0_128 x)
    · refine fun x => (congrFun (out_of (k := Head.key _ (Head.rows _)) (f := Head.forget _ (Head.rows _)) rfl rfl rfl rfl rfl rfl rfl rfl rfl) x).trans
        (out_piece _ _ _ _ _ _ 0 0 1024 2048 3072 rfl rfl rfl rfl 0 rfl _ _ _ _ _ _ _ _ _ slices_S1x1024_o0_0_S1x128 inb_S1x64x1024_S1x64x128_0_0_0 x)
  · exact cover0_B_14 _ _ _ _ _ _ _ _ _ _ _ _ _ _ _ _ _ _ _ _ _ _ _ _ _ _ _ _ _ _ _ _ _ _ _ _ _ _ _ _ _ _ _ _ _ _ _ _ _ _ _ _ _ _ _ _ _ _ y

/-- At the first point of a row, the block of the output. -/
theorem out_A (c : Dev nD) (t : Fin cfg0.N) (acc) (h0 : t.val % 128 = 0) :
    (stAt0 m c t.val t.isLt acc).1
      = outBlock (X0_0 m c t) (iblk m c 2 t) (iblk m c 3 t) (iblk m c 8 t) (iblk m c 10 t) (iblk m c 11 t) := by
  rw [stAt0_A m c t acc h0]
  dsimp only
  unfold out0_A_14
  funext y
  refine View.read_writes_apply_of_pieces (Val := Elt F) _ _ _ _ (View.PiecesOf.mem ?_) y ?_
  · unfold Gen.kernelRun0_A
    dsimp only
    sl_unfold_run_names
    simp (discharger := decide) only [View.readAt_eq_ld, Memref.IsWhole.read_unread, read_unread_whole, ↓View.readCov_skip, ↓View.readCov_fill,
      copy_whole, weight_eq]
    refine ⟨?_, ?_, ?_, ?_, ?_, ?_, ?_, ?_, trivial⟩
    · refine fun x => (congrFun (out_of (k := Head.key _ (Head.rows _)) (f := Head.forget _ (Head.rows _)) rfl rfl rfl rfl rfl rfl rfl rfl rfl) x).trans
        (out_piece _ _ _ _ _ _ 7 896 1920 2944 3968 rfl rfl rfl rfl 7 rfl _ _ _ _ _ _ _ _ _ slices_S1x1024_o0_896_S1x128 inb_S1x64x1024_S1x64x128_0_0_896 x)
    · refine fun x => (congrFun (out_of (k := Head.key _ (Head.rows _)) (f := Head.forget _ (Head.rows _)) rfl rfl rfl rfl rfl rfl rfl rfl rfl) x).trans
        (out_piece _ _ _ _ _ _ 6 768 1792 2816 3840 rfl rfl rfl rfl 6 rfl _ _ _ _ _ _ _ _ _ slices_S1x1024_o0_768_S1x128 inb_S1x64x1024_S1x64x128_0_0_768 x)
    · refine fun x => (congrFun (out_of (k := Head.key _ (Head.rows _)) (f := Head.forget _ (Head.rows _)) rfl rfl rfl rfl rfl rfl rfl rfl rfl) x).trans
        (out_piece _ _ _ _ _ _ 5 640 1664 2688 3712 rfl rfl rfl rfl 5 rfl _ _ _ _ _ _ _ _ _ slices_S1x1024_o0_640_S1x128 inb_S1x64x1024_S1x64x128_0_0_640 x)
    · refine fun x => (congrFun (out_of (k := Head.key _ (Head.rows _)) (f := Head.forget _ (Head.rows _)) rfl rfl rfl rfl rfl rfl rfl rfl rfl) x).trans
        (out_piece _ _ _ _ _ _ 4 512 1536 2560 3584 rfl rfl rfl rfl 4 rfl _ _ _ _ _ _ _ _ _ slices_S1x1024_o0_512_S1x128 inb_S1x64x1024_S1x64x128_0_0_512 x)
    · refine fun x => (congrFun (out_of (k := Head.key _ (Head.rows _)) (f := Head.forget _ (Head.rows _)) rfl rfl rfl rfl rfl rfl rfl rfl rfl) x).trans
        (out_piece _ _ _ _ _ _ 3 384 1408 2432 3456 rfl rfl rfl rfl 3 rfl _ _ _ _ _ _ _ _ _ slices_S1x1024_o0_384_S1x128 inb_S1x64x1024_S1x64x128_0_0_384 x)
    · refine fun x => (congrFun (out_of (k := Head.key _ (Head.rows _)) (f := Head.forget _ (Head.rows _)) rfl rfl rfl rfl rfl rfl rfl rfl rfl) x).trans
        (out_piece _ _ _ _ _ _ 2 256 1280 2304 3328 rfl rfl rfl rfl 2 rfl _ _ _ _ _ _ _ _ _ slices_S1x1024_o0_256_S1x128 inb_S1x64x1024_S1x64x128_0_0_256 x)
    · refine fun x => (congrFun (out_of (k := Head.key _ (Head.rows _)) (f := Head.forget _ (Head.rows _)) rfl rfl rfl rfl rfl rfl rfl rfl rfl) x).trans
        (out_piece _ _ _ _ _ _ 1 128 1152 2176 3200 rfl rfl rfl rfl 1 rfl _ _ _ _ _ _ _ _ _ slices_S1x1024_o0_128_S1x128 inb_S1x64x1024_S1x64x128_0_0_128 x)
    · refine fun x => (congrFun (out_of (k := Head.key _ (Head.rows _)) (f := Head.forget _ (Head.rows _)) rfl rfl rfl rfl rfl rfl rfl rfl rfl) x).trans
        (out_piece _ _ _ _ _ _ 0 0 1024 2048 3072 rfl rfl rfl rfl 0 rfl _ _ _ _ _ _ _ _ _ slices_S1x1024_o0_0_S1x128 inb_S1x64x1024_S1x64x128_0_0_0 x)
  · exact cover0_A_14 _ _ _ _ _ _ _ _ _ _ _ _ _ _ _ _ _ _ _ _ _ _ _ _ _ _ _ _ _ _ _ _ _ _ _ _ _ _ _ _ _ _ _ _ _ _ _ _ _ _ _ _ _ _ _ y

end Cert.Hgrn.Point

end
-- ==== Proof.Window.lean ====
/-
  The reference's running sums: a window sum padded on the low side by the window's length less one, read at an index.
-/
module

public import proofs.«01_k».proof.Proof.Gen.ReferenceIdeal
public import Idealize.ShloMosaic.PureOps.Ideal
public import Idealize.ShloMosaic.Lib.Pointwise

@[expose] public section

set_option maxRecDepth 16384

noncomputable section

open Idealize.ShloMosaic

namespace Cert.Hgrn

open Cert.ReferenceIdeal Cert.ReferenceIdeal.Gen

/-- A window sum is a sum over the window's positions. -/
theorem window_sum {s t u : Shape} (window strides lo hi : Fin s.rank → Nat) (x : FVec Ideal s .f32) (init : u.Idx → Ideal .f32)
    (h : s.ReduceWindows window strides lo hi t) (hu : 0 < u.numel) (h0 : init (Shape.Idx.first hu) = (0 : EReal)) (j : t.Idx) :
    Host.reduceWindowAdd window strides lo hi x init h hu j = (∑ w : (⟨s.rank, window⟩ : Shape).Idx,
      (if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else (0 : EReal)) : EReal) := by
  have hf : ∀ (l : List (Fin (⟨s.rank, window⟩ : Shape).numel)) (g : Fin (⟨s.rank, window⟩ : Shape).numel → EReal) (a : EReal),
      l.foldl (fun r n => r + g n) a = a + (l.map g).sum := by
    intro l g
    induction l with
    | nil => intro a; simp
    | cons y l ih => intro a; rw [List.foldl_cons, ih, List.map_cons, List.sum_cons, add_assoc]
  show Ideal.hostReduceWindowAdd window strides lo hi h x (init (Shape.Idx.first hu)) j = _
  rw [h0]
  unfold Ideal.hostReduceWindowAdd Host.reduceWindow
  refine (hf _ _ _).trans ?_
  rw [zero_add, ← List.ofFn_eq_map, List.sum_ofFn]
  refine Eq.trans (Finset.sum_congr rfl fun i _ => ?_) (Equiv.sum_comp (⟨s.rank, window⟩ : Shape).rowMajor.symm (fun w =>
    if hin : ∀ a, lo a ≤ (j (a.cast h.1.symm)).val * strides a + (w a).val
          ∧ (j (a.cast h.1.symm)).val * strides a + (w a).val - lo a < s.size a
        then x (fun a => ⟨(j (a.cast h.1.symm)).val * strides a + (w a).val - lo a, (hin a).2⟩) else (0 : EReal)))
  by_cases hin : ∀ a, lo a ≤ (j (a.cast h.1.symm)).val * strides a + ((⟨s.rank, window⟩ : Shape).rowMajor.symm i a).val
      ∧ (j (a.cast h.1.symm)).val * strides a + ((⟨s.rank, window⟩ : Shape).rowMajor.symm i a).val - lo a < s.size a
  · refine (dif_pos hin).trans ?_
    rw [dif_pos hin]
  · refine (dif_neg hin).trans ?_
    rw [dif_neg hin]

/-- The positions of a window of 64 along the third of four axes. -/
def win64 : Fin 64 ≃ (⟨4, ![1, 1, 64, 1]⟩ : Shape).Idx where
  toFun i := ix4 0 0 i 0
  invFun w := w 2
  left_inv i := rfl
  right_inv w := by
    funext a
    fin_cases a
    · exact Subsingleton.elim (α := Fin 1) _ _
    · exact Subsingleton.elim (α := Fin 1) _ _
    · rfl
    · exact Subsingleton.elim (α := Fin 1) _ _

/-- The running sum along a chunk's positions. -/
theorem cumsum_apply (x : FVec Ideal S4x8x64x128 .f32) (init : S_.Idx → Ideal .f32) (h) (hu)
    (h0 : init (Shape.Idx.first hu) = (0 : EReal)) (b : Fin 4) (g : Fin 8) (t : Fin 64) (d : Fin 128) :
    Host.reduceWindowAdd (t := S4x8x64x128) ![1, 1, 64, 1] ![1, 1, 1, 1] ![0, 0, 63, 0] ![0, 0, 0, 0] x init h hu (ix4 b g t d)
      = (∑ i : Fin 64, (if i.val ≤ t.val then x (ix4 b g i d) else (0 : EReal)) : EReal) := by
  rw [window_sum _ _ _ _ _ _ _ _ h0]
  refine (Equiv.sum_comp win64 _).symm.trans ?_
  rw [← Equiv.sum_comp (Equiv.addRight (t + 1)) (fun i : Fin 64 => if i.val ≤ t.val then x (ix4 b g i d) else (0 : EReal))]
  refine Finset.sum_congr rfl fun w _ => ?_
  have ht := t.isLt
  have hw := w.isLt
  have hv : ((Equiv.addRight (t + 1)) w).val = (w.val + (t.val + 1)) % 64 := by
    show (w + (t + 1)).val = _
    simp only [Fin.val_add]
    simp
  by_cases c : 63 ≤ t.val + w.val
  · have e : ((Equiv.addRight (t + 1)) w).val = t.val + w.val - 63 := by omega
    rw [if_pos (by omega), dif_pos]
    · refine congrArg x (funext fun a => Fin.ext ?_)
      fin_cases a
      · show b.val * 1 + 0 - 0 = b.val
        omega
      · show g.val * 1 + 0 - 0 = g.val
        omega
      · show t.val * 1 + w.val - 63 = ((Equiv.addRight (t + 1)) w).val
        omega
      · show d.val * 1 + 0 - 0 = d.val
        omega
    · intro a
      fin_cases a
      · show 0 ≤ b.val * 1 + 0 ∧ b.val * 1 + 0 - 0 < 4
        omega
      · show 0 ≤ g.val * 1 + 0 ∧ g.val * 1 + 0 - 0 < 8
        omega
      · show 63 ≤ t.val * 1 + w.val ∧ t.val * 1 + w.val - 63 < 64
        omega
      · show 0 ≤ d.val * 1 + 0 ∧ d.val * 1 + 0 - 0 < 128
        omega
  · have e : ((Equiv.addRight (t + 1)) w).val = t.val + w.val + 1 := by omega
    rw [if_neg (by omega), dif_neg]
    intro hin
    have h2 : 63 ≤ t.val * 1 + w.val := (hin 2).1
    omega

/-- The positions of a window of two along the first of two axes. -/
def win2 : Fin 2 ≃ (⟨2, ![2, 1]⟩ : Shape).Idx where
  toFun i := ix2 i 0
  invFun w := w 0
  left_inv i := rfl
  right_inv w := by
    funext a
    fin_cases a
    · rfl
    · exact Subsingleton.elim (α := Fin 1) _ _

/-- The first row of the running sum over two rows is the first row. -/
theorem cumsum_first (x : FVec Ideal S2x1024 .f32) (init : S_.Idx → Ideal .f32) (h) (hu)
    (h0 : init (Shape.Idx.first hu) = (0 : EReal)) (d : Fin 1024) :
    Host.reduceWindowAdd (t := S2x1024) ![2, 1] ![1, 1] ![1, 0] ![0, 0] x init h hu (ix2 0 d) = x (ix2 0 d) := by
  rw [window_sum _ _ _ _ _ _ _ _ h0]
  refine (Equiv.sum_comp win2 _).symm.trans ?_
  rw [Fin.sum_univ_two, dif_neg, dif_pos, zero_add]
  · refine congrArg x (funext fun a => Fin.ext ?_)
    fin_cases a
    · rfl
    · show d.val * 1 + 0 - 0 = d.val
      omega
  · intro a
    fin_cases a
    · show 1 ≤ 0 * 1 + 1 ∧ 0 * 1 + 1 - 1 < 2
      omega
    · show 0 ≤ d.val * 1 + 0 ∧ d.val * 1 + 0 - 0 < 1024
      omega
  · intro hin
    have h2 : 1 ≤ 0 * 1 + 0 := (hin 0).1
    omega

end Cert.Hgrn

end
-- ==== Proof.Ref.lean ====
/-
  The reference's values read at an index: what its loop starts from, what one trip makes of a state, and its result.
-/
module

public import proofs.«01_k».proof.Proof.Gen.ReferenceIdeal.Step
public import Idealize.ShloMosaic.Lib.Pointwise
public import Idealize.ShloMosaic.Lib.WordCmp
public import proofs.«01_k».proof.Proof.Window
public import proofs.«01_k».proof.Proof.Core

@[expose] public section

set_option maxRecDepth 16384

noncomputable section

open Idealize.ShloMosaic

namespace Cert.Hgrn.Ref

open Cert.ReferenceIdeal Cert.ReferenceIdeal.Gen Cert.ReferenceIdeal.Step

/-- Position `t` of chunk `j`. -/
def pos (j : Fin 128) (t : Fin 64) : Fin 8192 := ⟨j.val * 64 + t.val, by omega⟩

/-- Lane `d` of head `h`. -/
def lane (h : Fin 8) (d : Fin 128) : Fin 1024 := ⟨h.val * 128 + d.val, by omega⟩

/-- Lane `d` of head `h` of the projections' part at `o`. -/
def col (o : ℕ) (ho : o + 1024 ≤ 12288) (h : Fin 8) (d : Fin 128) : Fin 12288 := ⟨o + (h.val * 128 + d.val), by omega⟩

variable (X : Vec Ideal S4x8192x12288 .f32) (L : Vec Ideal S2x1024 .f32) (S : Vec Ideal S8x128x128 .f32)

/-- The gates' lower bound at a lane: the first row of the softmax of the logits. -/
def bound (d : Fin 1024) : EReal := Ideal.div (Ideal.exp (L (ix2 0 d) - max (L (ix2 0 d)) (L (ix2 1 d))))
      (Ideal.exp (L (ix2 0 d) - max (L (ix2 0 d)) (L (ix2 1 d))) + Ideal.exp (L (ix2 1 d) - max (L (ix2 0 d)) (L (ix2 1 d))))

theorem max_apply (d : Fin 1024) : A_main_v2 X L S (ix1 d) = max (L (ix2 0 d)) (L (ix2 1 d)) := by
  pointwise [A_main_v2, A_main_v0, K_main_v1, K_main_cst_0, K_main_cst]
  have hb : Ideal.ofBits .f32 4286578688#32 = ⊥ := by
    unfold Ideal.ofBits Ideal.ieee
    simp
  have hu : (Finset.univ : Finset (Fin 2)) = {0, 1} := by decide
  rw [hb, hu]
  simp

theorem bound_apply (d : Fin 1024) : A_main_v13 X L S (ix1 d) = bound L d := by
  have h11 : A_main_v11 X L S (ix2 0 d) = A_main_v10 X L S (ix2 0 d) := by
    unfold A_main_v11
    refine cumsum_first _ _ _ _ ?_ d
    pointwise [K_main_call0_call0_v0, K_main_call0_call0_cst]
  have h10 : A_main_v10 X L S (ix2 0 d) = bound L d := by
    unfold bound
    have hm := max_apply X L S d
    pointwise [A_main_v10, A_main_v9, A_main_v8, A_main_v7, A_main_v6, A_main_v5, A_main_v4, A_main_v3, K_main_cst_1]
    rw [Fin.sum_univ_two]
    simp only [hm]
  rw [← h10, ← h11]
  pointwise [A_main_v13, A_main_v12]

variable (j : Fin 128) (b : Fin 4) (h : Fin 8) (t : Fin 64) (d : Fin 128)

theorem value_apply : (init X L S).main_v65_2 (ix5 j b h t d) = X (ix3 b (pos j t) (col 2048 (by omega) h d)) := by
  unfold init
  dsimp only
  pointwise [A_main_v61, A_main_v60, A_main_v52, A_main_v51, A_main_v50]
  rfl

theorem query_apply : (init X L S).main_v65_0 (ix5 j b h t d) = X (ix3 b (pos j t) (col 0 (by omega) h d)) *
      Ideal.logistic (X (ix3 b (pos j t) (col 0 (by omega) h d))) := by
  unfold init
  dsimp only
  have e : col 0 (by omega) h d = ⟨h.val * 128 + d.val, by omega⟩ := Fin.ext (Nat.zero_add _)
  rw [e]
  pointwise [A_main_v57, A_main_v56, A_main_v18, A_main_v17, A_main_v16, A_main_call1_v5, A_main_call1_v3, A_main_call1_v1,
    A_main_call1_v0, A_main_v15, K_main_call1_v2, K_main_call1_cst, K_main_call1_v4, K_main_call1_cst_0]
  rfl

theorem key_apply : (init X L S).main_v65_1 (ix5 j b h t d) = (1 - bound L (lane h d)) *
      Ideal.logistic (-(X (ix3 b (pos j t) (col 1024 (by omega) h d)))) := by
  unfold init
  dsimp only
  rw [← bound_apply X L S (lane h d)]
  pointwise [A_main_v59, A_main_v58, A_main_v49, A_main_v48, A_main_v47, A_main_v46, A_main_v45, A_main_v44, A_main_v42,
    A_main_v40, A_main_v39, A_main_v38, A_main_v37, A_main_v14, K_main_v36, K_main_cst_5, K_main_v41, K_main_cst_6, K_main_v43,
    K_main_cst_7]
  rfl

theorem log_apply : (init X L S).main_v65_3 (ix5 j b h t d) = Ideal.log (bound L (lane h d) + (1 - bound L (lane h d)) *
      Ideal.logistic (X (ix3 b (pos j t) (col 1024 (by omega) h d)))) := by
  unfold init
  dsimp only
  rw [← bound_apply X L S (lane h d)]
  pointwise [A_main_v63, A_main_v62, A_main_v35, A_main_v34, A_main_v33, A_main_v32, A_main_v31, A_main_v30, A_main_v29,
    A_main_v28, A_main_v27, A_main_v26, A_main_v24, A_main_v22, A_main_v21, A_main_v20, A_main_v14, K_main_v19, K_main_cst_2,
    K_main_v23, K_main_cst_3, K_main_v25, K_main_cst_4]
  rfl

theorem state_apply (k v : Fin 128) : (init X L S).main_v65_5 (ix4 b h k v) = S (ix3 h v k) := by
  unfold init
  dsimp only
  pointwise [A_main_v55, A_main_v54, A_main_v53]

/-! ### One trip -/

variable (s : State Ideal)

/-- The running sum of the gates' logarithms over a chunk's positions. -/
def cumLog (t : Fin 64) : EReal := ∑ i : Fin 64, if i.val ≤ t.val then s.main_v65_3 (ix5 j b h i d) else 0

theorem slice_apply (x : Vec Ideal S128x4x8x64x128 .f32) (st : Fin 5 → Int) (hs)
    (e : ∀ a, st a = ((![j.val, 0, 0, 0, 0] : Fin 5 → ℕ) a : Int)) :
    Host.dynamicSlice S1x4x8x64x128 x st hs (ix5 0 b h t d) = x (ix5 j b h t d) := by
  have hk : S128x4x8x64x128.Slices (![j.val, 0, 0, 0, 0] : Fin 5 → ℕ) S1x4x8x64x128 := by
    refine ⟨rfl, fun a => ?_⟩
    fin_cases a
    · show j.val + 1 ≤ 128
      omega
    all_goals exact le_refl _
  rw [WordCmp.dynamicSlice_eq_extract _ x st hs _ hk e]
  refine congrArg x (funext fun a => Fin.ext ?_)
  fin_cases a
  · rfl
  · exact Nat.zero_add _
  · exact Nat.zero_add _
  · exact Nat.zero_add _
  · exact Nat.zero_add _

theorem update_apply (x : Vec Ideal S128x4x8x64x128 .f32) (u : Vec Ideal S1x4x8x64x128 .f32) (st : Fin 5 → Int) (hs)
    (e : ∀ a, st a = ((![j.val, 0, 0, 0, 0] : Fin 5 → ℕ) a : Int)) (j' : Fin 128) :
    Host.dynamicUpdateSlice x u st hs (ix5 j' b h t d) = if j' = j then u (ix5 0 b h t d) else x (ix5 j' b h t d) := by
  have hk : S128x4x8x64x128.Slices (![j.val, 0, 0, 0, 0] : Fin 5 → ℕ) S1x4x8x64x128 := by
    refine ⟨rfl, fun a => ?_⟩
    fin_cases a
    · show j.val + 1 ≤ 128
      omega
    all_goals exact le_refl _
  rw [WordCmp.dynamicUpdateSlice_eq_update x u st hs _ hk e]
  unfold updateSlice
  by_cases hj : j' = j
  · subst hj
    rw [if_pos rfl, dif_pos]
    · refine congrArg u (funext fun a => Fin.ext ?_)
      fin_cases a
      · exact Nat.sub_self _
      all_goals rfl
    · intro a
      fin_cases a
      · exact ⟨le_rfl, Nat.lt_succ_self _⟩
      · exact ⟨Nat.zero_le _, by show b.val < 0 + 4; omega⟩
      · exact ⟨Nat.zero_le _, by show h.val < 0 + 8; omega⟩
      · exact ⟨Nat.zero_le _, by show t.val < 0 + 64; omega⟩
      · exact ⟨Nat.zero_le _, by show d.val < 0 + 128; omega⟩
  · rw [if_neg hj, dif_neg]
    intro hin
    have h0 : j.val ≤ j'.val ∧ j'.val < j.val + 1 := hin 0
    exact hj (Fin.ext (by omega))

theorem start_eq (j : Fin 128) : (BitVec.ofNat 32 j.val).toInt = (j.val : Int) :=
  WordCmp.toInt_ofNat_of_lt (by have := j.isLt; omega)

theorem b5_apply : b5 j.val s (ix4 b h t d) = s.main_v65_0 (ix5 j b h t d) := by
  pointwise [b5]
  unfold b4
  refine slice_apply j b h t d _ _ _ fun a => ?_
  fin_cases a
  · exact start_eq j
  all_goals rfl

theorem b11_apply : b11 j.val s (ix4 b h t d) = s.main_v65_1 (ix5 j b h t d) := by
  pointwise [b11]
  unfold b10
  refine slice_apply j b h t d _ _ _ fun a => ?_
  fin_cases a
  · exact start_eq j
  all_goals rfl

theorem b17_apply : b17 j.val s (ix4 b h t d) = s.main_v65_2 (ix5 j b h t d) := by
  pointwise [b17]
  unfold b16
  refine slice_apply j b h t d _ _ _ fun a => ?_
  fin_cases a
  · exact start_eq j
  all_goals rfl

theorem b23_apply : b23 j.val s (ix4 b h t d) = s.main_v65_3 (ix5 j b h t d) := by
  pointwise [b23]
  unfold b22
  refine slice_apply j b h t d _ _ _ fun a => ?_
  fin_cases a
  · exact start_eq j
  all_goals rfl

theorem b26_apply : b26 j.val s (ix4 b h t d) = cumLog j b h d s t := by
  unfold b26 cumLog
  rw [cumsum_apply _ _ _ _ (by pointwise [b25, b24])]
  simp only [b23_apply]

theorem mask_eq : ∀ t i : Fin 64, IntOp.cmpi .sge (IntOp.addi (BitVec.ofNat 32 t.val) 0#32) (BitVec.ofNat 32 i.val)
    = if i.val ≤ t.val then 1#1 else 0#1 := by
  decide +kernel

theorem b51_apply (i : Fin 64) : b51 j.val s (ix5 b h t i d) =
    if i.val ≤ t.val then Ideal.exp (min (cumLog j b h d s t - cumLog j b h d s i) 0) else 0 := by
  pointwise [b51, b50, b49, b48, b47, b46, b45, b44, b43, b42, b41, b40, b39, b38, b37, b36, b35, b34, b33, b32, b31, b30, b29, b28, b27,
    b26_apply, mask_eq]
  by_cases c : i.val ≤ t.val
  · simp only [if_pos c]
    rfl
  · simp only [if_neg c]
    rfl

theorem b59_apply (i : Fin 64) : b59 j.val s (ix4 b h t i) = ∑ k : Fin 128, s.main_v65_0 (ix5 j b h t k) * s.main_v65_1 (ix5 j b h i k) *
    (if i.val ≤ t.val then Ideal.exp (min (cumLog j b h k s t - cumLog j b h k s i) 0) else 0) := by
  pointwise [b59, b58, b57, b56, b55, b54, b53, b52, b51_apply, b5_apply, b11_apply]

theorem b64_apply : b64 j.val s (ix4 b h t d) =
    (∑ k : Fin 128, (s.main_v65_0 (ix5 j b h t k) * Ideal.exp (cumLog j b h k s t)) * s.main_v65_5 (ix4 b h k d))
      + ∑ i : Fin 64, (∑ k : Fin 128, s.main_v65_0 (ix5 j b h t k) * s.main_v65_1 (ix5 j b h i k) *
          (if i.val ≤ t.val then Ideal.exp (min (cumLog j b h k s t - cumLog j b h k s i) 0) else 0)) * s.main_v65_2 (ix5 j b h i d) := by
  pointwise [b64, b63, b62, b61, b60, b59_apply, b17_apply, b5_apply, b26_apply, dot_S4x8x64x128_S4x8x128x128_S4x8x64x128_3_2_2_3_01_01,
    dot_S4x8x64x64_S4x8x64x128_S4x8x64x128_3_2_2_3_01_01]

theorem b76_apply (k v : Fin 128) : b76 j.val s (ix4 b h k v) =
    Ideal.exp (cumLog j b h k s 63) * s.main_v65_5 (ix4 b h k v)
      + ∑ i : Fin 64, (s.main_v65_1 (ix5 j b h i k) * Ideal.exp (cumLog j b h k s 63 - cumLog j b h k s i)) * s.main_v65_2 (ix5 j b h i v) := by
  pointwise [b76, b75, b74, b73, b72, b71, b70, b69, b68, b67, b66, b65, b26_apply, b11_apply, b17_apply,
    dot_S4x8x64x128_S4x8x64x128_S4x8x128x128_2_2_3_3_01_01]

theorem b82_apply (j' : Fin 128) : b82 j.val s (ix5 j' b h t d) =
    if j' = j then b64 j.val s (ix4 b h t d) else s.main_v65_6 (ix5 j' b h t d) := by
  have e : b77 j.val s (ix5 0 b h t d) = b64 j.val s (ix4 b h t d) := by
    pointwise [b77]
  rw [← e]
  unfold b82
  refine update_apply j b h t d _ _ _ _ (fun a => ?_) j'
  fin_cases a
  · exact start_eq j
  all_goals rfl

/-! ### The result -/

theorem result_apply (W : Vec Ideal S1x128 .f32) : R_main_v88 s X W (ix3 b (pos j t) (lane h d)) =
    s.main_v65_6 (ix5 j b h t d) * Ideal.rsqrt (Ideal.div (∑ k : Fin 128, s.main_v65_6 (ix5 j b h t k) * s.main_v65_6 (ix5 j b h t k))
        (Ideal.ofBits .f32 0x43000000#32) + Ideal.ofBits .f32 0x358637BD#32) * W (ix2 0 d)
      * (X (ix3 b (pos j t) (col 3072 (by omega) h d)) * Ideal.logistic (X (ix3 b (pos j t) (col 3072 (by omega) h d)))) := by
  have e1 : ∀ hh, (⟨(pos j t).val / 64, hh⟩ : Fin 128) = j := fun hh => Fin.ext (by simp only [pos]; omega)
  have e2 : ∀ hh, (⟨(lane h d).val / 128, hh⟩ : Fin 8) = h := fun hh => Fin.ext (by simp only [lane]; omega)
  have e3 : ∀ hh, (⟨(pos j t).val % 64, hh⟩ : Fin 64) = t := fun hh => Fin.ext (by simp only [pos]; omega)
  have e4 : ∀ hh, (⟨(lane h d).val % 128, hh⟩ : Fin 128) = d := fun hh => Fin.ext (by simp only [lane]; omega)
  pointwise [R_main_v88]
  simp only [e1, e2, e3, e4]
  rfl

end Cert.Hgrn.Ref

end
-- ==== Proof.Match.lean ====
/-
  One head over one chunk: with the layer's arguments in its blocks and the state before it in its scratch, the kernel's
  point computes what one trip of the reference's loop computes.
-/
module

public import proofs.«01_k».proof.Proof.Chunk
public import proofs.«01_k».proof.Proof.PointOut
public import proofs.«01_k».proof.Proof.Ref

@[expose] public section

set_option maxRecDepth 16384
set_option backward.proofsInPublic true
set_option maxHeartbeats 1000000

noncomputable section

open Idealize.ShloMosaic

namespace Cert.Hgrn.Match

open Cert.Hgrn.Ref Cert.Hgrn.Point
open Cert.ReferenceIdeal.Step (State init b64 b76)
open Cert.KernelIdeal (S4x8192x12288 S2x1024 S8x128x128 S1x128 S1x64x8192 S448x64 S64x64 S1x64x128 S1x128x128)

variable (X : Vec Ideal S4x8192x12288 .f32) (L : Vec Ideal S2x1024 .f32) (S : Vec Ideal S8x128x128 .f32) (W : Vec Ideal S1x128 .f32)
variable (j : Fin 128) (b : Fin 4) (h : Fin 8)

/-- The forget gate at a position and a lane. -/
def gate (i : Fin 64) (d : Fin 128) : EReal := bound L (lane h d) + (1 - bound L (lane h d)) *
  Ideal.logistic (X (ix3 b (pos j i) (col 1024 (by omega) h d)))

/-- Its logarithm. -/
def logs (i : Fin 64) (d : Fin 128) : ℝ := (Ideal.log (gate X L j b h i d)).toReal

variable (hL : ∀ d, ∃ r : ℝ, 0 < r ∧ r < 1 ∧ bound L d = (r : EReal))

include hL in
theorem logs_spec (i : Fin 64) (d : Fin 128) : Ideal.log (gate X L j b h i d) = (logs X L j b h i d : EReal) ∧
    logs X L j b h i d ≤ 0 ∧ gate X L j b h i d = ((Real.exp (logs X L j b h i d) : ℝ) : EReal) := by
  obtain ⟨r, r0, r1, e⟩ := hL (lane h d)
  obtain ⟨l, e1, l0, e2⟩ := gate_log r0 r1 (X (ix3 b (pos j i) (col 1024 (by omega) h d)))
  have g : gate X L j b h i d = (r : EReal) + (1 - (r : EReal)) *
      Ideal.logistic (X (ix3 b (pos j i) (col 1024 (by omega) h d))) := by
    unfold gate
    rw [e]
  have k : logs X L j b h i d = l := by
    unfold logs
    rw [g, e1, EReal.toReal_coe]
  rw [k]
  exact ⟨by rw [g, e1], l0, by rw [g, e2]⟩

/-- A loop state whose unchanging parts are those the loop starts from. -/
structure Keeps (s : State Ideal) : Prop where
  q : s.main_v65_0 = (init X L S).main_v65_0
  k : s.main_v65_1 = (init X L S).main_v65_1
  v : s.main_v65_2 = (init X L S).main_v65_2
  l : s.main_v65_3 = (init X L S).main_v65_3

variable (s : State Ideal) (hk : Keeps X L S s)

include hL hk in
theorem cumLog_eq (d : Fin 128) (t : Fin 64) : cumLog j b h d s t = Head.run (logs X L j b h) t d := by
  unfold cumLog Head.run cum
  rw [← sum_coe, hk.l]
  refine Finset.sum_congr rfl fun i _ => ?_
  rw [log_apply]
  have e := (logs_spec X L j b h hL i d).1
  unfold gate at e
  rw [e]
  split <;> rfl

variable (x0 : Vec Ideal S1x64x8192 .f32) (x2 : Vec Ideal S2x1024 .f32) (x3 : Vec Ideal S1x128 .f32) (x8 : Vec Ideal S448x64 .bf16)
  (x10 : Vec Ideal S64x64 .i32) (st : Vec Ideal S8x128x128 .f32)
  (h0 : ∀ (p : Fin 64) (q : Fin 8192), x0 (ix3 0 p q) = X (ix3 b (pos j p) ⟨q.val, by omega⟩))
  (h2 : ∀ (r : Fin 2) (d : Fin 1024), x2 (ix2 r d) = L (ix2 r d))
  (h3 : ∀ d : Fin 128, x3 (ix2 0 d) = W (ix2 0 d))
  (h8 : ∀ (r : Fin 448) (i : Fin 64), x8 (ix2 r i) = if seg r i then (1 : EReal) else (0 : EReal))
  (h10 : ∀ t i : Fin 64, x10 (ix2 t i) = lvl t i)
  (hst : ∀ k v : Fin 128, st (ix3 h v k) = s.main_v65_5 (ix4 b h k v))

include h0 in
theorem lanes_eq (o : ℕ) (ho) (p : Fin 64) (d : Fin 128) (o' : ℕ) (ho') (e : o = o' + h.val * 128) :
    lanes x0 o ho (ix3 0 p d) = X (ix3 b (pos j p) (col o' ho' h d)) := by
  refine (h0 p ⟨o + d.val, by omega⟩).trans (congrArg (fun q => X (ix3 b (pos j p) q)) (Fin.ext ?_))
  simp only [col]
  omega

include h2 in
theorem lower_eq (ho) (d : Fin 128) : lower x2 (128 * h.val) ho (ix2 0 d) = bound L (lane h d) := by
  have e : lower x2 (128 * h.val) ho (ix2 0 d) = Head.bounds x2 (ix2 0 (lane h d)) := by
    refine congrArg (fun q => Head.bounds x2 (ix2 0 q)) (Fin.ext ?_)
    simp only [lane]
    show 128 * h.val + d.val = _
    omega
  rw [e, Head.bounds_apply, h2, h2]
  rfl

include h0 h2 in
theorem forget_eq (ho) (ho') (i : Fin 64) (d : Fin 128) :
    Head.forget (lower x2 (128 * h.val) ho) (Head.rows (lanes x0 (1024 + 128 * h.val) ho')) (ix2 i d) = gate X L j b h i d := by
  rw [Head.forget_apply, Head.rows_apply, lower_eq L h x2 h2, lanes_eq X j b h x0 h0 _ _ i d 1024 (by omega) (by omega)]
  rfl

include h0 h2 hk in
theorem key_eq (ho) (ho') (i : Fin 64) (d : Fin 128) :
    Head.key (lower x2 (128 * h.val) ho) (Head.rows (lanes x0 (1024 + 128 * h.val) ho')) (ix2 i d)
      = s.main_v65_1 (ix5 j b h i d) := by
  rw [Head.key_apply, Head.rows_apply, lower_eq L h x2 h2, lanes_eq X j b h x0 h0 _ _ i d 1024 (by omega) (by omega),
    hk.k, key_apply]

include h0 hk in
theorem query_eq (ho) (i : Fin 64) (d : Fin 128) :
    Head.silu (Head.rows (lanes x0 (128 * h.val) ho)) (ix2 i d) = s.main_v65_0 (ix5 j b h i d) := by
  rw [Head.silu_apply, Head.rows_apply, lanes_eq X j b h x0 h0 _ _ i d 0 (by omega) (by omega), hk.q, query_apply]

include h0 hk in
theorem value_eq (ho) (i : Fin 64) (d : Fin 128) :
    Head.rows (lanes x0 (2048 + 128 * h.val) ho) (ix2 i d) = s.main_v65_2 (ix5 j b h i d) := by
  rw [Head.rows_apply, lanes_eq X j b h x0 h0 _ _ i d 2048 (by omega) (by omega), hk.v, value_apply]

include hst in
theorem slab_eq (k v : Fin 128) : Head.stateOf (slab st h) (ix2 v k) = s.main_v65_5 (ix4 b h k v) := by
  have e : Head.stateOf (slab st h) (ix2 v k) = slab st h (ix3 0 v k) := by
    pointwise [Head.stateOf]
  rw [e]
  exact hst k v

include hL hk h0 h2 h8 hst in
theorem state_eq (k v : Fin 128) : headState x0 x2 x8 st h (ix3 0 v k) = b76 j.val s (ix4 b h k v) := by
  have e : headState x0 x2 x8 st h (ix3 0 v k) = Head.nextState
      (Head.key (lower x2 (128 * h.val) (by omega)) (Head.rows (lanes x0 (1024 + 128 * h.val) (by omega))))
      (Head.rows (lanes x0 (2048 + 128 * h.val) (by omega)))
      (Head.expSums x8 (Head.forget (lower x2 (128 * h.val) (by omega)) (Head.rows (lanes x0 (1024 + 128 * h.val) (by omega)))))
      (Head.stateOf (slab st h)) (ix2 v k) := by
    unfold headState Head.state
    generalize Head.nextState (F := Ideal) _ _ _ _ = y
    pointwise []
  rw [e, b76_apply, Head.nextState_eq x8 h8 _ _ _ _ (logs X L j b h) (fun i d => by
    rw [forget_eq X L j b h x0 x2 h0 h2]
    exact (logs_spec X L j b h hL i d).1)]
  simp only [cumLog_eq X L S j b h hL s hk, slab_eq b h s st hst, key_eq X L S j b h s hk x0 x2 h0 h2,
    value_eq X L S j b h s hk x0 h0]
  rfl

include hL hk h0 h2 h3 h8 h10 hst in
theorem out_eq (t : Fin 64) (d : Fin 128) : headOut x0 x2 x3 x8 x10 st h (ix3 0 t d)
    = b64 j.val s (ix4 b h t d) * Ideal.rsqrt (Ideal.div (∑ k : Fin 128, b64 j.val s (ix4 b h t k) * b64 j.val s (ix4 b h t k))
        (Ideal.ofBits .f32 0x43000000#32) + Ideal.ofBits .f32 0x358637BD#32) * W (ix2 0 d)
      * (X (ix3 b (pos j t) (col 3072 (by omega) h d)) * Ideal.logistic (X (ix3 b (pos j t) (col 3072 (by omega) h d)))) := by
  have hm : ∀ d : Fin 128, Head.mixed (Head.silu (Head.rows (lanes x0 (128 * h.val) (by omega))))
      (Head.rows (lanes x0 (2048 + 128 * h.val) (by omega)))
      (Head.expSums x8 (Head.forget (lower x2 (128 * h.val) (by omega)) (Head.rows (lanes x0 (1024 + 128 * h.val) (by omega)))))
      (Head.scores x10 (Head.silu (Head.rows (lanes x0 (128 * h.val) (by omega))))
        (Head.key (lower x2 (128 * h.val) (by omega)) (Head.rows (lanes x0 (1024 + 128 * h.val) (by omega))))
        (Head.forget (lower x2 (128 * h.val) (by omega)) (Head.rows (lanes x0 (1024 + 128 * h.val) (by omega))))
        (Head.expSums x8 (Head.forget (lower x2 (128 * h.val) (by omega)) (Head.rows (lanes x0 (1024 + 128 * h.val) (by omega))))))
      (Head.stateOf (slab st h)) (ix2 t d) = b64 j.val s (ix4 b h t d) := by
    intro d
    rw [b64_apply, Head.mixed_eq x8 h8 x10 h10 _ _ _ _ _ (logs X L j b h) (fun i d => (logs_spec X L j b h hL i d).2.1)
      (fun i d => by
        rw [forget_eq X L j b h x0 x2 h0 h2]
        exact (logs_spec X L j b h hL i d).1)
      (fun i d => by
        rw [forget_eq X L j b h x0 x2 h0 h2]
        exact (logs_spec X L j b h hL i d).2.2)]
    unfold pairScore decay
    simp only [cumLog_eq X L S j b h hL s hk, slab_eq b h s st hst, key_eq X L S j b h s hk x0 x2 h0 h2,
      value_eq X L S j b h s hk x0 h0, query_eq X L S j b h s hk x0 h0]
  have e : headOut x0 x2 x3 x8 x10 st h (ix3 0 t d) = Head.normGate x3 (Head.mixed (Head.silu (Head.rows (lanes x0 (128 * h.val) (by omega))))
      (Head.rows (lanes x0 (2048 + 128 * h.val) (by omega)))
      (Head.expSums x8 (Head.forget (lower x2 (128 * h.val) (by omega)) (Head.rows (lanes x0 (1024 + 128 * h.val) (by omega)))))
      (Head.scores x10 (Head.silu (Head.rows (lanes x0 (128 * h.val) (by omega))))
        (Head.key (lower x2 (128 * h.val) (by omega)) (Head.rows (lanes x0 (1024 + 128 * h.val) (by omega))))
        (Head.forget (lower x2 (128 * h.val) (by omega)) (Head.rows (lanes x0 (1024 + 128 * h.val) (by omega))))
        (Head.expSums x8 (Head.forget (lower x2 (128 * h.val) (by omega)) (Head.rows (lanes x0 (1024 + 128 * h.val) (by omega))))))
      (Head.stateOf (slab st h))) (Head.rows (lanes x0 (3072 + 128 * h.val) (by omega))) (ix2 t d) := by
    unfold headOut Head.out
    generalize Head.normGate (F := Ideal) _ _ _ = y
    pointwise []
  rw [e, Head.normGate_apply, h3, Head.rows_apply, lanes_eq X j b h x0 h0 _ _ t d 3072 (by omega) (by omega)]
  simp only [hm]

end Cert.Hgrn.Match

end
-- ==== Proof.RefLoop.lean ====
/-
  The reference's loop over the chunks: what the loop's buffers hold before trip `k` is the `k`-th state of the sequence
  `init`, `step 0`, `step 1`, …; the reference's result is read off state 128.
-/
module

public import proofs.«01_k».proof.Proof.Gen.ReferenceIdeal.Run
public import proofs.«01_k».proof.Proof.Gen.ReferenceIdeal.Step

@[expose] public section

noncomputable section

namespace Cert.Hgrn.RefLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop state a valuation of the buffers holds. -/
def stateOf (V0 : Valuation τ sig (Elt F)) : State F where
  main_v65_5 := V0 (Proc.devRef .tc main_v65_5)
  main_v65_6 := V0 (Proc.devRef .tc main_v65_6)
  main_v65_0 := V0 (Proc.devRef .tc main_v65_0)
  main_v65_1 := V0 (Proc.devRef .tc main_v65_1)
  main_v65_2 := V0 (Proc.devRef .tc main_v65_2)
  main_v65_3 := V0 (Proc.devRef .tc main_v65_3)

/-- The valuation's trip counter is `j`. -/
def Counts (V0 : Valuation τ sig (Elt F)) (j : ℕ) : Prop :=
  V0 (Proc.devRef .tc main_v65_4) = constantI S_ 32 (BitVec.ofNat 32 j)

set_option maxRecDepth 16384 in
theorem carried_state {V0 : Valuation τ sig (Elt F)} {j : ℕ} (h : Counts V0 j) :
    step_main_v65_5 V0 = (step j (stateOf V0)).main_v65_5 := by
  unfold step_main_v65_5 res_main_while0b_v118 res_main_while0b_v90 res_main_while0b_v91 res_main_while0b_v93
  rw [h]
  rfl

set_option maxRecDepth 16384 in
theorem carried_outputs {V0 : Valuation τ sig (Elt F)} {j : ℕ} (h : Counts V0 j) :
    step_main_v65_6 V0 = (step j (stateOf V0)).main_v65_6 := by
  unfold step_main_v65_6 res_main_while0b_v89 res_main_while0b_v90 res_main_while0b_v91 res_main_while0b_v93
  rw [h]
  rfl

theorem counts_step {V0 : Valuation τ sig (Elt F)} {j : ℕ} (h : Counts V0 j) : Counts (STEP V0) (j + 1) := by
  unfold Counts
  rw [STEP_main_v65_4]
  unfold step_main_v65_4
  rw [h]
  funext i
  show BitVec.ofNat 32 j + 1#32 = BitVec.ofNat 32 (j + 1)
  simp only [BitVec.ofNat_add]

/-- One trip of the loop takes the state it holds to `step` of it. -/
theorem stateOf_step {V0 : Valuation τ sig (Elt F)} {j : ℕ} (h : Counts V0 j) :
    stateOf (STEP V0) = step j (stateOf V0) := by
  unfold stateOf
  rw [STEP_main_v65_5, STEP_main_v65_6, STEP_main_v65_0, STEP_main_v65_1, STEP_main_v65_2, STEP_main_v65_3,
    carried_state h, carried_outputs h]
  rfl

theorem outputs_of_state {V0 : Valuation τ sig (Elt F)} {s : State F} (h : stateOf V0 = s) :
    V0 (Proc.devRef .tc main_v65_6) = s.main_v65_6 := by
  subst h
  rfl

/-- The sequence of states from a given one on. -/
def iter (s0 : State F) : ℕ → State F
  | 0 => s0
  | n + 1 => step n (iter s0 n)

variable (m : (ℓ : Loc nD τ sig) → Buf (Elt F) ℓ) (c : Dev nD)

/-- The state before the first trip, of the memory the run starts from. -/
def initState : State F :=
  init (m ((c.tc : Thread nD τ).loc main_arg0)) (m ((c.tc : Thread nD τ).loc main_arg2)) (m ((c.tc : Thread nD τ).loc main_arg8))

set_option maxRecDepth 65536 in
set_option maxHeartbeats 1000000 in
theorem entry_state : stateOf (entryContents preI m c) = initState m c ∧ Counts (entryContents preI m c) 0 := by
  have e5 : entryContents preI m c (Proc.devRef .tc main_v65_5) = (initState m c).main_v65_5 := by
    (simp only [entryContents, afterL_cons, afterL_nil]; after_reads_simp) <;> rfl
  have e6 : entryContents preI m c (Proc.devRef .tc main_v65_6) = (initState m c).main_v65_6 := by
    (simp only [entryContents, afterL_cons, afterL_nil]; after_reads_simp) <;> rfl
  have e0 : entryContents preI m c (Proc.devRef .tc main_v65_0) = (initState m c).main_v65_0 := by
    (simp only [entryContents, afterL_cons, afterL_nil]; after_reads_simp) <;> rfl
  have e1 : entryContents preI m c (Proc.devRef .tc main_v65_1) = (initState m c).main_v65_1 := by
    (simp only [entryContents, afterL_cons, afterL_nil]; after_reads_simp) <;> rfl
  have e2 : entryContents preI m c (Proc.devRef .tc main_v65_2) = (initState m c).main_v65_2 := by
    (simp only [entryContents, afterL_cons, afterL_nil]; after_reads_simp) <;> rfl
  have e3 : entryContents preI m c (Proc.devRef .tc main_v65_3) = (initState m c).main_v65_3 := by
    (simp only [entryContents, afterL_cons, afterL_nil]; after_reads_simp) <;> rfl
  have e4 : entryContents preI m c (Proc.devRef .tc main_v65_4) = constantI S_ 32 (BitVec.ofNat 32 0) := by
    (simp only [entryContents, afterL_cons, afterL_nil]; after_reads_simp) <;> rfl
  refine ⟨?_, e4⟩
  unfold stateOf
  rw [e5, e6, e0, e1, e2, e3]

/-- Before trip `k` the buffers hold state `k`. -/
theorem holds_iter : ∀ k, stateOf (STEP^[k] (entryContents preI m c)) = iter (initState m c) k ∧
    Counts (STEP^[k] (entryContents preI m c)) k
  | 0 => entry_state m c
  | k + 1 => by
    rw [Function.iterate_succ_apply']
    have h := holds_iter k
    refine ⟨?_, counts_step h.2⟩
    rw [stateOf_step h.2, h.1]
    rfl

set_option maxRecDepth 16384 in
/-- The result, read off the last state and the two arguments the operations after the loop take. -/
theorem out_eq : out_main_v88 (STEP^[128] (entryContents preI m c)) =
    Cert.ReferenceIdeal.Step.R_main_v88 (iter (initState m c) 128) (m ((c.tc : Thread nD τ).loc main_arg0))
      (m ((c.tc : Thread nD τ).loc main_arg3)) := by
  have h6 : STEP^[128] (entryContents preI m c) (Proc.devRef .tc main_v65_6) = (iter (initState m c) 128).main_v65_6 :=
    outputs_of_state (holds_iter m c 128).1
  have h0 := iter_main_arg0 m c 128
  have h3 := iter_main_arg3 m c 128
  revert h6 h0 h3
  generalize iter (initState m c) 128 = s
  generalize STEP^[128] (entryContents preI m c) = V
  intro h6 h0 h3
  unfold out_main_v88 Cert.ReferenceIdeal.Step.R_main_v88
  rw [h6, h0, h3]
  rfl

end Cert.Hgrn.RefLoop

end
-- ==== Proof.Fold.lean ====
/-
  The recurrence call and its reference, chunk by chunk: the states agree before every chunk of every batch row, hence the
  outputs do.
-/
module

public import proofs.«01_k».proof.Proof.Block
public import proofs.«01_k».proof.Proof.Match
public import proofs.«01_k».proof.Proof.RefLoop

@[expose] public section

set_option maxRecDepth 16384
set_option backward.proofsInPublic true
set_option maxHeartbeats 1000000

noncomputable section

open Idealize.ShloMosaic

namespace Cert.Hgrn.Fold

open Cert.KernelIdeal Cert.KernelIdeal.Gen Cert.KernelIdeal.Value
open Cert.Hgrn.Ref Cert.Hgrn.Point Cert.Hgrn.Match Cert.Hgrn.RefLoop
open Cert.ReferenceIdeal.Step (State init step b64 b76 step_main_v65_5 step_main_v65_6 R_main_v88)

/-! ### Finite logits -/

/-- With finite logits every lower bound is strictly between 0 and 1. -/
theorem bound_real (L : Vec Ideal S2x1024 .f32) (h : ∀ r d, ∃ x : ℝ, L (ix2 r d) = (x : EReal)) (d : Fin 1024) :
    ∃ r : ℝ, 0 < r ∧ r < 1 ∧ bound L d = (r : EReal) := by
  obtain ⟨x, hx⟩ := h 0 d
  obtain ⟨y, hy⟩ := h 1 d
  have hm : max (x : EReal) (y : EReal) = ((max x y : ℝ) : EReal) := by
    rcases le_total x y with c | c
    · rw [max_eq_right c, max_eq_right (by exact_mod_cast c)]
    · rw [max_eq_left c, max_eq_left (by exact_mod_cast c)]
  have p := Real.exp_pos (x - max x y)
  have q := Real.exp_pos (y - max x y)
  refine ⟨Real.exp (x - max x y) * (1 / (Real.exp (x - max x y) + Real.exp (y - max x y))), by positivity, ?_, ?_⟩
  · rw [mul_one_div, div_lt_one (by positivity)]
    linarith
  · unfold bound
    rw [hx, hy, hm, ← EReal.coe_sub, ← EReal.coe_sub, exp_coe, exp_coe, ← EReal.coe_add, Ideal.div_coe (by positivity), ← EReal.coe_mul]

/-! ### The reference's loop -/

section Loop

variable (X : Vec Ideal S4x8192x12288 .f32) (L : Vec Ideal S2x1024 .f32) (S : Vec Ideal S8x128x128 .f32)

theorem keeps_iter : ∀ n, Keeps X L S (iter (init X L S) n)
  | 0 => ⟨rfl, rfl, rfl, rfl⟩
  | n + 1 => ⟨(keeps_iter n).q, (keeps_iter n).k, (keeps_iter n).v, (keeps_iter n).l⟩

/-- Trip `j` writes chunk `j` of the outputs, and no later trip changes it. -/
theorem written (s0 : State Ideal) (j : Fin 128) (b : Fin 4) (h : Fin 8) (t : Fin 64) (d : Fin 128) :
    ∀ n, n ≤ 128 → j.val < n → (iter s0 n).main_v65_6 (ix5 j b h t d) = b64 j.val (iter s0 j.val) (ix4 b h t d)
  | 0, _, hj => absurd hj (Nat.not_lt_zero _)
  | n + 1, hn, hj => by
    have e : (iter s0 (n + 1)).main_v65_6 (ix5 j b h t d) = if j = (⟨n, hn⟩ : Fin 128) then b64 n (iter s0 n) (ix4 b h t d)
        else (iter s0 n).main_v65_6 (ix5 j b h t d) := by
      show (step n (iter s0 n)).main_v65_6 (ix5 j b h t d) = _
      rw [step_main_v65_6]
      exact b82_apply ⟨n, hn⟩ b h t d (iter s0 n) j
    rw [e]
    split
    · rename_i c
      subst c
      rfl
    · rename_i c
      exact written s0 j b h t d n (by omega) (by
        have : j.val ≠ n := fun e => c (Fin.ext e)
        omega)

end Loop

/-! ### The kernel's points -/

variable (m : (ℓ : Loc nD τ sig) → Buf (Elt Ideal) ℓ) (c : Dev nD)

/-- The arguments the mixer reads: projections, logits, norm weight, entering state. -/
abbrev aX : Vec Ideal S4x8192x12288 .f32 := m ((c.tc : Thread nD τ).loc main_arg0)
abbrev aL : Vec Ideal S2x1024 .f32 := m ((c.tc : Thread nD τ).loc main_arg2)
abbrev aW : Vec Ideal S1x128 .f32 := m ((c.tc : Thread nD τ).loc main_arg3)
abbrev aS : Vec Ideal S8x128x128 .f32 := m ((c.tc : Thread nD τ).loc main_arg8)

/-- The reference's state before chunk `n`. -/
abbrev before (n : ℕ) : State Ideal := iter (init (aX m c) (aL m c) (aS m c)) n

variable (hL : ∀ d, ∃ r : ℝ, 0 < r ∧ r < 1 ∧ bound (aL m c) d = (r : EReal))

/-- A point's step is taken from some contents; where the point is not a row's first, from what the point before left. -/
theorem outs_step : ∀ (n : ℕ) (hn : n < cfg0.N), ∃ acc, outsAt0 m c n hn = stAt0 m c n hn acc ∧
    ∀ k (hk : k < cfg0.N), n = k + 1 → acc = outsAt0 m c k hk
  | 0, hn => ⟨_, outsAt0_zero m c hn, fun k hk e => absurd e (Nat.succ_ne_zero k).symm⟩
  | n + 1, hn => ⟨_, outsAt0_succ m c n hn, fun k hk e => by
      obtain rfl : n = k := Nat.succ.inj e
      rfl⟩

theorem proj_at (t : Fin cfg0.N) (j : Fin 128) (b : Fin 4) (ht : t.val = 128 * b.val + j.val) (p : Fin 64) (q : Fin 8192) :
    (X0_0 m c t : Vec Ideal S1x64x8192 .f32) (ix3 0 p q) = aX m c (ix3 b (pos j p) ⟨q.val, by omega⟩) := by
  have e : t.val % 128 = j.val := by omega
  refine (Block.proj_apply m c t p q (by omega) (by omega) b (by omega)).trans ?_
  refine congrArg (fun z => aX m c (ix3 b z ⟨q.val, by omega⟩)) (Fin.ext ?_)
  simp only [pos, e]

include hL in
/-- A point's output and next state are read off a state that is the reference's before the chunk. -/
theorem point (b : Fin 4) : ∀ (j : ℕ) (hj : j < 128) (hn : 128 * b.val + j < cfg0.N), ∃ st : Vec Ideal S8x128x128 .f32,
    (∀ (h : Fin 8) (k v : Fin 128), st (ix3 h v k) = (before m c j).main_v65_5 (ix4 b h k v)) ∧
    (outsAt0 m c (128 * b.val + j) hn).1 = outBlock (X0_0 m c ⟨_, hn⟩) (iblk m c 2 ⟨_, hn⟩) (iblk m c 3 ⟨_, hn⟩)
      (iblk m c 8 ⟨_, hn⟩) (iblk m c 10 ⟨_, hn⟩) st ∧
    (outsAt0 m c (128 * b.val + j) hn).2.2.1 = stateBlock (X0_0 m c ⟨_, hn⟩) (iblk m c 2 ⟨_, hn⟩) (iblk m c 8 ⟨_, hn⟩) st
  | 0, hj, hn => by
    obtain ⟨acc, e, -⟩ := outs_step m c _ hn
    refine ⟨iblk m c 11 ⟨_, hn⟩, fun h k v => ?_, ?_, ?_⟩
    · refine (Block.state_apply m c ⟨_, hn⟩ h v k).trans ?_
      exact (Ref.state_apply (aX m c) (aL m c) (aS m c) b h k v).symm
    · rw [e]
      exact out_A m c ⟨_, hn⟩ acc (by show (128 * b.val + 0) % 128 = 0; omega)
    · rw [e]
      exact state_A m c ⟨_, hn⟩ acc (by show (128 * b.val + 0) % 128 = 0; omega)
  | j + 1, hj, hn => by
    obtain ⟨acc, e, e'⟩ := outs_step m c _ hn
    have hn' : 128 * b.val + j < cfg0.N := by omega
    obtain ⟨st, hst, -, hs⟩ := point b j (by omega) hn'
    have ea := e' _ hn' rfl
    refine ⟨acc.2.2.1, fun h k v => ?_, ?_, ?_⟩
    · rw [ea, hs]
      have hb : (before m c (j + 1)).main_v65_5 = b76 j (before m c j) := step_main_v65_5 _ _
      rw [hb]
      exact Match.state_eq (aX m c) (aL m c) (aS m c) ⟨j, by omega⟩ b h hL (before m c j) (keeps_iter _ _ _ j)
        (X0_0 m c ⟨_, hn'⟩) (iblk m c 2 ⟨_, hn'⟩) (iblk m c 8 ⟨_, hn'⟩) st
        (fun p q => proj_at m c ⟨_, hn'⟩ ⟨j, by omega⟩ b rfl p q) (Block.logits_apply m c _) (Block.segments_apply m c _)
        (hst h) k v
    · rw [e]
      exact out_B m c ⟨_, hn⟩ acc (by show ¬ (128 * b.val + (j + 1)) % 128 = 0; omega)
    · rw [e]
      exact state_B m c ⟨_, hn⟩ acc (by show ¬ (128 * b.val + (j + 1)) % 128 = 0; omega)

include hL in
/-- The kernel's first result is the reference's. -/
theorem result_eq : (G14 m c : Vec Ideal S4x8192x1024 .bf16) = R_main_v88 (before m c 128) (aX m c) (aW m c) := by
  funext i
  obtain ⟨b, j, t, h, d, rfl⟩ : ∃ (b : Fin 4) (j : Fin 128) (t : Fin 64) (h : Fin 8) (d : Fin 128),
      i = ix3 b (pos j t) (lane h d) := by
    have h1 : (i 1).val < 8192 := (i 1).isLt
    have h2 : (i 2).val < 1024 := (i 2).isLt
    refine ⟨i 0, ⟨(i 1).val / 64, by omega⟩, ⟨(i 1).val % 64, by omega⟩, ⟨(i 2).val / 128, by omega⟩,
      ⟨(i 2).val % 128, by omega⟩, funext fun a => Fin.ext ?_⟩
    fin_cases a
    · rfl
    · show (i 1).val = (i 1).val / 64 * 64 + (i 1).val % 64
      omega
    · show (i 2).val = (i 2).val / 128 * 128 + (i 2).val % 128
      omega
  have hN : cfg0.N = 512 := N_0
  have hn : 128 * b.val + j.val < cfg0.N := by omega
  have hp : pt14Of (ix3 b (pos j t) (lane h d)) = 128 * b.val + j.val := by
    unfold pt14Of
    show 128 * (b.val / 1 - 0) + 1 * ((j.val * 64 + t.val) / 64 - 0) + 1 * ((h.val * 128 + d.val) / 1024 - 0) = _
    omega
  have hl : loc14Of (ix3 b (pos j t) (lane h d)) = ix3 0 t (lane h d) := by
    funext a
    refine Fin.ext ?_
    fin_cases a
    · show b.val % 1 = 0
      omega
    · show (j.val * 64 + t.val) % 64 = t.val
      omega
    · show (h.val * 128 + d.val) % 1024 = h.val * 128 + d.val
      omega
  have eG : (G14 m c : Vec Ideal S4x8192x1024 .bf16) (ix3 b (pos j t) (lane h d)) = (outsAt0 m c _ hn).1 (ix3 0 t (lane h d)) := by
    unfold G14
    rw [dif_pos (by rw [hp]; exact hn), hl, ← outsAt0_sweep m c _ (by rw [hp]; exact hn)]
    have same : ∀ n n' (h : n < cfg0.N) (h' : n' < cfg0.N), n = n' → outsAt0 m c n h = outsAt0 m c n' h' := by
      rintro n _ h h' rfl
      rfl
    rw [same _ _ _ hn hp]
  obtain ⟨st, hst, ho, -⟩ := point m c hL b j.val j.isLt hn
  have eo : outBlock (X0_0 m c ⟨_, hn⟩) (iblk m c 2 ⟨_, hn⟩) (iblk m c 3 ⟨_, hn⟩) (iblk m c 8 ⟨_, hn⟩) (iblk m c 10 ⟨_, hn⟩) st
      (ix3 0 t (lane h d)) = headOut (X0_0 m c ⟨_, hn⟩) (iblk m c 2 ⟨_, hn⟩) (iblk m c 3 ⟨_, hn⟩) (iblk m c 8 ⟨_, hn⟩)
      (iblk m c 10 ⟨_, hn⟩) st h (ix3 0 t d) := by
    have e1 : ∀ hh, (⟨(lane h d).val / 128, hh⟩ : Fin 8) = h := fun hh => Fin.ext (by simp only [lane]; omega)
    have e2 : ∀ hh, (⟨(lane h d).val % 128, hh⟩ : Fin 128) = d := fun hh => Fin.ext (by simp only [lane]; omega)
    unfold outBlock
    exact congrArg₂ (fun x y => headOut (X0_0 m c ⟨_, hn⟩) (iblk m c 2 ⟨_, hn⟩) (iblk m c 3 ⟨_, hn⟩) (iblk m c 8 ⟨_, hn⟩)
      (iblk m c 10 ⟨_, hn⟩) st x (ix3 0 t y)) (e1 _) (e2 _)
  rw [eG, ho, eo, result_apply]
  have hw : ∀ d, (before m c 128).main_v65_6 (ix5 j b h t d) = b64 j.val (before m c j.val) (ix4 b h t d) := fun d =>
    written _ j b h t d 128 le_rfl j.isLt
  simp only [hw]
  exact Match.out_eq (aX m c) (aL m c) (aS m c) (aW m c) j b h hL (before m c j.val) (keeps_iter _ _ _ j.val)
    (X0_0 m c ⟨_, hn⟩) (iblk m c 2 ⟨_, hn⟩) (iblk m c 3 ⟨_, hn⟩) (iblk m c 8 ⟨_, hn⟩) (iblk m c 10 ⟨_, hn⟩) st
    (fun p q => proj_at m c ⟨_, hn⟩ j b rfl p q) (Block.logits_apply m c _) (Block.weight_apply m c _)
    (Block.segments_apply m c _) (Block.levels_apply m c _) (hst h) t d

end Cert.Hgrn.Fold

end
-- ==== Proof.Logits.lean ====
/-
  The precondition on the gates' logits, read: every logit is a real number.
-/
module

public import proofs.«01_k».proof.Pre_finite_logits
public import Idealize.ShloMosaic.Lib.Pointwise

@[expose] public section

noncomputable section

open Idealize.ShloMosaic

namespace Cert.Hgrn.Logits

open Cert.Pre_finite_logits

instance facts : Cert.Pre_finite_logits.Facts where
  bcast_S_S2x1024 := by decide

theorem real (a0 : FVec Ideal S4x8192x12288 .f32) (a1 : FVec Ideal S4x8192x256 .f32) (L : FVec Ideal S2x1024 .f32)
    (a3 : FVec Ideal S1x128 .f32) (a4 : FVec Ideal S1x4x3072 .f32) (a5 a6 : FVec Ideal S1x8 .f32) (a7 : FVec Ideal S1x128 .f32)
    (a8 a9 : FVec Ideal S8x128x128 .f32) (a10 : FVec Ideal S8x3072 .f32)
    (h : fn (F := Ideal) a0 a1 L a3 a4 a5 a6 a7 a8 a9 a10 = fun _ => 1#1) (r : Fin 2) (d : Fin 1024) :
    ∃ x : ℝ, L (ix2 r d) = (x : EReal) := by
  have e := congrFun h (ix2 r d)
  have k : fn (F := Ideal) a0 a1 L a3 a4 a5 a6 a7 a8 a9 a10 (ix2 r d)
      = FloatOps.cmpf .olt (FloatOps.absf (L (ix2 r d))) (Ideal.ofBits .f32 0x7F800000#32) := by
    pointwise [fn]
  rw [k] at e
  have ht : Ideal.ofBits .f32 0x7F800000#32 = ⊤ := by
    unfold Ideal.ofBits Ideal.ieee
    simp
  rw [ht] at e
  have hlt : max (L (ix2 r d)) (-(L (ix2 r d))) < (⊤ : EReal) := by
    by_contra c
    have z : FloatOps.cmpf (F := Ideal) (φ := .f32) .olt (FloatOps.absf (L (ix2 r d))) (⊤ : EReal) = 0#1 := by
      show Ideal.cmp .olt (max (L (ix2 r d)) (-(L (ix2 r d)))) (⊤ : EReal) = 0#1
      simp [Ideal.cmp, c]
    exact absurd (z.symm.trans e) (by decide)
  generalize (L (ix2 r d) : EReal) = x at hlt ⊢
  induction x using EReal.rec with
  | bot => simp at hlt
  | top => simp at hlt
  | coe x => exact ⟨x, rfl⟩

end Cert.Hgrn.Logits

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Value
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Value
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjRefIdeal
public import proofs.«01_k».proof.Proof.Gen.InProjRefIdeal.Run
public import proofs.«01_k».proof.Proof.Gen.InProjRefIdeal.Read
public import proofs.«01_k».proof.Proof.Ffn
public import proofs.«01_k».proof.Proof.InRun
public import proofs.«01_k».proof.Proof.InKernel
public import proofs.«01_k».proof.Proof.InValue
public import proofs.«01_k».proof.Proof.Merge
public import proofs.«01_k».proof.Proof.Fold
public import proofs.«01_k».proof.Proof.Logits
public import Idealize.ShloMosaic.Adequacy
public import Idealize.ShloMosaic.Init

@[expose] public section

noncomputable section

open Idealize.ShloMosaic Idealize.SL.Sem

namespace Cert.Proof

/-- The recurrence's reference runs and leaves its arguments and counters. -/
theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run m g)

/-- The feed-forward's reference runs and leaves its arguments and counters. -/
theorem frame_ffn_reference : Cert.quiescent_FfnRefIdeal (hFfnRefIdeal := Cert.FfnRefIdeal.Gen.facts) := fun m g _ =>
  (θ_run (Cert.FfnRefIdeal.defs (F := Ideal)) _ _).mono
    (fun r h => ⟨fun c => (h c).2, sem_eq_zero_of_no_sems (by decide) r.2⟩) (Cert.FfnRefIdeal.Value.run m g)

/-- The input projection's reference runs and leaves its arguments and counters. -/
theorem frame_in_proj_reference : Cert.quiescent_InProjRefIdeal (hInProjRefIdeal := Cert.InProjRefIdeal.Gen.facts) := fun m g _ =>
  (θ_run (Cert.InProjRefIdeal.defs (F := Ideal)) _ _).mono
    (fun r h => ⟨fun c => (h c).2.2, sem_eq_zero_of_no_sems (by decide) r.2⟩) (Cert.InProjRefIdeal.Value.run m g)

/-- The merge's reference runs and leaves its arguments and counters. -/
theorem frame_merge_reference : Cert.quiescent_MergeRefIdeal (hMergeRefIdeal := Cert.MergeRefIdeal.Gen.facts) := fun m g _ =>
  (θ_run (Cert.MergeRefIdeal.defs (F := Ideal)) _ _).mono
    (fun r h => ⟨fun c => (h c).2.2, sem_eq_zero_of_no_sems (by decide) r.2⟩) (Cert.MergeRefIdeal.Value.run m g)

/-- The feed-forward call computes its reference. -/
theorem algebraic_ffn : Cert.algebraic_FfnIdeal_FfnRefIdeal (hFfnIdeal := Cert.FfnIdeal.Gen.facts)
    (hFfnRefIdeal := Cert.FfnRefIdeal.Gen.facts) := fun m g m' g' _ h =>
  ⟨fun c => (Cert.FfnIdeal.Gen.dats m 0 c).arrAt 6 Cert.FfnIdeal.cfg0.N, Cert.FfnIdeal.Value.run_blocks m g,
    (θ_run (Cert.FfnRefIdeal.defs (F := Ideal)) _ _).mono (fun r hr c => ⟨by
      obtain ⟨h0, h1, h2, h3, h4⟩ := h c
      rw [(hr c).1, Cert.FfnRefIdeal.Read.val_main_v22_eq]
      refine Eq.trans ?_ (Cert.Ffn.Value.final m c).symm
      rw [h0, h1, h2, h3, h4], (hr c).2⟩) (Cert.FfnRefIdeal.Value.run m' g')⟩

/-- The input projection's call computes its reference. -/
theorem algebraic_in_proj : Cert.algebraic_InProjIdeal_InProjRefIdeal (hInProjIdeal := Cert.InProjIdeal.Gen.facts)
    (hInProjRefIdeal := Cert.InProjRefIdeal.Gen.facts) := fun m g m' g' _ h =>
  ⟨fun c => (Cert.InProjIdeal.Own.dats m 0 c).arrAt 4 Cert.InProjIdeal.cfg0.N,
    fun c => (Cert.InProjIdeal.Own.dats m 0 c).arrAt 5 Cert.InProjIdeal.cfg0.N,
    (θ_run (Cert.InProjIdeal.defs (F := Ideal)) _ _).mono (fun r hr c => ⟨(hr.1 c).1.1, (hr.1 c).1.2, (hr.1 c).2⟩)
      (Cert.InProjIdeal.Own.run_results m g),
    (θ_run (Cert.InProjRefIdeal.defs (F := Ideal)) _ _).mono (fun r hr c => ⟨by
      obtain ⟨h0, h1, h2⟩ := h c
      rw [(hr c).1, Cert.InProjRefIdeal.Read.val_main_v22_eq]
      refine Eq.trans ?_ (Cert.InProj.Value.final4 m c).symm
      rw [h0, h1, h2], by
      obtain ⟨h0, h1, h2⟩ := h c
      rw [(hr c).2.1, Cert.InProjRefIdeal.Read.val_main_v23_eq]
      refine Eq.trans ?_ (Cert.InProj.Value.final5 m c).symm
      rw [h0, h1, h2], (hr c).2.2⟩) (Cert.InProjRefIdeal.Value.run m' g')⟩

/-- The merging call computes its reference. -/
theorem algebraic_merge : Cert.algebraic_MergeIdeal_MergeRefIdeal (hMergeIdeal := Cert.MergeIdeal.Gen.facts)
    (hMergeRefIdeal := Cert.MergeRefIdeal.Gen.facts) := fun m g m' g' _ h =>
  ⟨fun c => (Cert.MergeIdeal.Gen.dats m 0 c).arrAt 8 Cert.MergeIdeal.cfg0.N,
    fun c => (Cert.MergeIdeal.Gen.dats m 0 c).arrAt 9 Cert.MergeIdeal.cfg0.N, Cert.MergeIdeal.Value.run_blocks m g,
    (θ_run (Cert.MergeRefIdeal.defs (F := Ideal)) _ _).mono (fun r hr c => ⟨by
      obtain ⟨h0, h1, h2, h3, h4, h5, h6, h7⟩ := h c
      rw [(hr c).1, Cert.MergeRefIdeal.Read.val_main_v28_eq]
      refine Eq.trans ?_ (Cert.Merge.Value.final8 m c).symm
      rw [h0, h1, h2, h3, h4, h5, h6], by
      obtain ⟨h0, h1, h2, h3, h4, h5, h6, h7⟩ := h c
      rw [(hr c).2.1, Cert.MergeRefIdeal.Read.val_main_v43_eq]
      refine Eq.trans ?_ (Cert.Merge.Value.final9 m c).symm
      rw [h0, h1, h2, h3, h4, h5, h6, h7], (hr c).2.2⟩) (Cert.MergeRefIdeal.Value.run m' g')⟩

/-- The recurrence call computes its reference, whenever the gates' logits are finite. -/
theorem algebraic_recurrence : Cert.algebraic_KernelIdeal_ReferenceIdeal_pre_finite_logits (hKernelIdeal := Cert.KernelIdeal.Gen.facts)
    (hReferenceIdeal := Cert.ReferenceIdeal.Gen.facts) (hPre_finite_logits := Cert.Hgrn.Logits.facts) := fun m g m' g' hp h =>
  ⟨fun c => Cert.KernelIdeal.Value.G14 m c,
    (θ_run (Cert.KernelIdeal.defs (F := Ideal)) _ _).mono (fun r hr c => ⟨(hr c).1, (hr c).2.2⟩) (Cert.KernelIdeal.Value.run m g),
    (θ_run (Cert.ReferenceIdeal.defs (F := Ideal)) _ _).mono (fun r hr c => ⟨by
      obtain ⟨h0, -, h2, h3, -, -, -, -, h8, -, -⟩ := h c
      have hL := Cert.Hgrn.Fold.bound_real (Cert.Hgrn.Fold.aL m c) (Cert.Hgrn.Logits.real _ _ _ _ _ _ _ _ _ _ _ (hp c))
      rw [(hr c).1, Cert.Hgrn.RefLoop.out_eq]
      refine Eq.trans ?_ (Cert.Hgrn.Fold.result_eq m c hL).symm
      unfold Cert.Hgrn.RefLoop.initState
      rw [h0, h2, h3, h8], (hr c).2⟩) (Cert.ReferenceIdeal.Value.run m' g')⟩

theorem claim : Cert.Claim :=
  ⟨Cert.Kernel.Gen.facts, Cert.KernelIdeal.Gen.facts, Cert.ReferenceIdeal.Gen.facts, Cert.Ffn.Gen.facts, Cert.FfnIdeal.Gen.facts,
    Cert.FfnRefIdeal.Gen.facts, Cert.InProj.Gen.facts, Cert.InProjIdeal.Gen.facts, Cert.InProjRefIdeal.Gen.facts, Cert.Merge.Gen.facts, Cert.MergeIdeal.Gen.facts, Cert.MergeRefIdeal.Gen.facts,
    Cert.Hgrn.Logits.facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.Ffn.Gen.frame m g, fun m g _ => Cert.FfnIdeal.Gen.frame m g, frame_ffn_reference,
    fun m g _ => Cert.InProj.Own.frame m g, fun m g _ => Cert.InProjIdeal.Own.frame m g, frame_in_proj_reference,
    fun m g _ => Cert.Merge.Gen.frame m g, fun m g _ => Cert.MergeIdeal.Gen.frame m g, frame_merge_reference,
    trivial, algebraic_recurrence, trivial, algebraic_ffn, trivial, algebraic_in_proj, trivial, algebraic_merge⟩

end Cert.Proof

end
